-- ==== Defs.lean ====
def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite [hPre_finite : Cert.Pre_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))).1 = (fun _ => 1#1)
    ∧ (Cert.Pre_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))).2.1 = (fun _ => 1#1)
    ∧ (Cert.Pre_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))).2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite [hPre_finite : Cert.Pre_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))).1 = (fun _ => 1#1)
    ∧ (Cert.Pre_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))).2.1 = (fun _ => 1#1)
    ∧ (Cert.Pre_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_finite3 [hPre_finite3 : Cert.Pre_finite3.Facts] (m : (ℓ : Loc Cert.FrontIdeal.nD Cert.FrontIdeal.τ Cert.FrontIdeal.sig) → Buf (Elt Ideal) ℓ) : Prop :=
  ∀ c : Dev Cert.FrontIdeal.nD,
    (Cert.Pre_finite3.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2))).1 = (fun _ => 1#1)
    ∧ (Cert.Pre_finite3.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2))).2.1 = (fun _ => 1#1)
    ∧ (Cert.Pre_finite3.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2))).2.2 = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_finite3 [hPre_finite3 : Cert.Pre_finite3.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_finite3.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2))).1 = (fun _ => 1#1)
    ∧ (Cert.Pre_finite3.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2))).2.1 = (fun _ => 1#1)
    ∧ (Cert.Pre_finite3.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2))).2.2 = (fun _ => 1#1)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpIdeal_pre_finite [hGmlpIdeal : Cert.GmlpIdeal.Facts] [hPre_finite : Cert.Pre_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_GmlpRefIdeal_pre_finite [hGmlpRefIdeal : Cert.GmlpRefIdeal.Facts] [hPre_finite : Cert.Pre_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontIdeal_pre_finite3 [hFrontIdeal : Cert.FrontIdeal.Facts] [hPre_finite3 : Cert.Pre_finite3.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_finite3 m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2))
      ∧ r.2.sem = fun _ => 0)

def quiescent_FrontRefIdeal_pre_finite3 [hFrontRefIdeal : Cert.FrontRefIdeal.Facts] [hPre_finite3 : Cert.Pre_finite3.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_finite3 m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2))
      ∧ r.2.sem = fun _ => 0)

def preserves_Gmlp_GmlpIdeal : Prop :=
  True

def algebraic_GmlpIdeal_GmlpRefIdeal_pre_finite [hGmlpIdeal : Cert.GmlpIdeal.Facts] [hGmlpRefIdeal : Cert.GmlpRefIdeal.Facts] [hPre_finite : Cert.Pre_finite.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v12_0)) (v1 : (c : Dev Cert.GmlpIdeal.nD) → Buf (Elt Ideal) ((c.tc : Thread Cert.GmlpIdeal.nD Cert.GmlpIdeal.τ).loc Cert.GmlpIdeal.main_v12_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v12_0) = v0 c
          ∧ r.2.mem ((c.tc : Thread Cert.GmlpIdeal.nD Cert.GmlpIdeal.τ).loc Cert.GmlpIdeal.main_v12_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v96) = v0 c
          ∧ r.2.mem ((c.tc : Thread Cert.GmlpRefIdeal.nD Cert.GmlpRefIdeal.τ).loc Cert.GmlpRefIdeal.main_v97) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v76) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Front_FrontIdeal : Prop :=
  True

def algebraic_FrontIdeal_FrontRefIdeal_pre_finite3 [hFrontIdeal : Cert.FrontIdeal.Facts] [hFrontRefIdeal : Cert.FrontRefIdeal.Facts] [hPre_finite3 : Cert.Pre_finite3.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_finite3 m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)) →
    ∃ (v0 : (c : Dev Cert.FrontIdeal.nD) → Buf (Elt Ideal) ((c.tc : Thread Cert.FrontIdeal.nD Cert.FrontIdeal.τ).loc Cert.FrontIdeal.main_v7_0)) (v1 : (c : Dev Cert.FrontIdeal.nD) → Buf (Elt Ideal) ((c.tc : Thread Cert.FrontIdeal.nD Cert.FrontIdeal.τ).loc Cert.FrontIdeal.main_v7_1)) (v2 : (c : Dev Cert.FrontIdeal.nD) → Buf (Elt Ideal) ((c.tc : Thread Cert.FrontIdeal.nD Cert.FrontIdeal.τ).loc Cert.FrontIdeal.main_v7_2)) (v3 : (c : Dev Cert.FrontIdeal.nD) → Buf (Elt Ideal) ((c.tc : Thread Cert.FrontIdeal.nD Cert.FrontIdeal.τ).loc Cert.FrontIdeal.main_v7_3)) (v4 : (c : Dev Cert.FrontIdeal.nD) → Buf (Elt Ideal) ((c.tc : Thread Cert.FrontIdeal.nD Cert.FrontIdeal.τ).loc Cert.FrontIdeal.main_v7_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v7_0) = v0 c
          ∧ r.2.mem ((c.tc : Thread Cert.FrontIdeal.nD Cert.FrontIdeal.τ).loc Cert.FrontIdeal.main_v7_1) = v1 c
          ∧ r.2.mem ((c.tc : Thread Cert.FrontIdeal.nD Cert.FrontIdeal.τ).loc Cert.FrontIdeal.main_v7_2) = v2 c
          ∧ r.2.mem ((c.tc : Thread Cert.FrontIdeal.nD Cert.FrontIdeal.τ).loc Cert.FrontIdeal.main_v7_3) = v3 c
          ∧ r.2.mem ((c.tc : Thread Cert.FrontIdeal.nD Cert.FrontIdeal.τ).loc Cert.FrontIdeal.main_v7_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v40) = v0 c
          ∧ r.2.mem ((c.tc : Thread Cert.FrontRefIdeal.nD Cert.FrontRefIdeal.τ).loc Cert.FrontRefIdeal.main_v41) = v1 c
          ∧ r.2.mem ((c.tc : Thread Cert.FrontRefIdeal.nD Cert.FrontRefIdeal.τ).loc Cert.FrontRefIdeal.main_v42) = v2 c
          ∧ r.2.mem ((c.tc : Thread Cert.FrontRefIdeal.nD Cert.FrontRefIdeal.τ).loc Cert.FrontRefIdeal.main_v12) = v3 c
          ∧ r.2.mem ((c.tc : Thread Cert.FrontRefIdeal.nD Cert.FrontRefIdeal.τ).loc Cert.FrontRefIdeal.main_v43) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2))

def Claim : Prop :=
  ∃ (hGmlp : Cert.Gmlp.Facts) (hGmlpIdeal : Cert.GmlpIdeal.Facts) (hGmlpRefIdeal : Cert.GmlpRefIdeal.Facts) (hPost : Cert.Post.Facts) (hPostIdeal : Cert.PostIdeal.Facts) (hPostRefIdeal : Cert.PostRefIdeal.Facts) (hFront : Cert.Front.Facts) (hFrontIdeal : Cert.FrontIdeal.Facts) (hFrontRefIdeal : Cert.FrontRefIdeal.Facts) (hPre_finite : Cert.Pre_finite.Facts) (hPre_finite3 : Cert.Pre_finite3.Facts),
    quiescent_Gmlp (hGmlp := hGmlp)
    ∧ quiescent_GmlpIdeal (hGmlpIdeal := hGmlpIdeal)
    ∧ quiescent_GmlpIdeal_pre_finite (hGmlpIdeal := hGmlpIdeal) (hPre_finite := hPre_finite)
    ∧ quiescent_GmlpRefIdeal (hGmlpRefIdeal := hGmlpRefIdeal)
    ∧ quiescent_GmlpRefIdeal_pre_finite (hGmlpRefIdeal := hGmlpRefIdeal) (hPre_finite := hPre_finite)
    ∧ quiescent_Post (hPost := hPost)
    ∧ quiescent_PostIdeal (hPostIdeal := hPostIdeal)
    ∧ quiescent_PostRefIdeal (hPostRefIdeal := hPostRefIdeal)
    ∧ quiescent_Front (hFront := hFront)
    ∧ quiescent_FrontIdeal (hFrontIdeal := hFrontIdeal)
    ∧ quiescent_FrontIdeal_pre_finite3 (hFrontIdeal := hFrontIdeal) (hPre_finite3 := hPre_finite3)
    ∧ quiescent_FrontRefIdeal (hFrontRefIdeal := hFrontRefIdeal)
    ∧ quiescent_FrontRefIdeal_pre_finite3 (hFrontRefIdeal := hFrontRefIdeal) (hPre_finite3 := hPre_finite3)
    ∧ preserves_Gmlp_GmlpIdeal
    ∧ algebraic_GmlpIdeal_GmlpRefIdeal_pre_finite (hGmlpIdeal := hGmlpIdeal) (hGmlpRefIdeal := hGmlpRefIdeal) (hPre_finite := hPre_finite)
    ∧ preserves_Post_PostIdeal
    ∧ algebraic_PostIdeal_PostRefIdeal (hPostIdeal := hPostIdeal) (hPostRefIdeal := hPostRefIdeal)
    ∧ preserves_Front_FrontIdeal
    ∧ algebraic_FrontIdeal_FrontRefIdeal_pre_finite3 (hFrontIdeal := hFrontIdeal) (hFrontRefIdeal := hFrontRefIdeal) (hPre_finite3 := hPre_finite3)
-- ==== Pre_finite.lean ====
abbrev S4x8192x1024 : Shape := ⟨3, ![4, 8192, 1024]⟩
abbrev S1x1024x1792 : Shape := ⟨3, ![1, 1024, 1792]⟩
abbrev S1x768 : Shape := ⟨2, ![1, 768]⟩
abbrev S1x12x128x128 : Shape := ⟨4, ![1, 12, 128, 128]⟩
abbrev S1x12x128 : Shape := ⟨3, ![1, 12, 128]⟩
abbrev S4x256x512 : Shape := ⟨3, ![4, 256, 512]⟩
abbrev S_ : Shape := ⟨0, ![]⟩

class Facts : Prop where
  bcast_S_S4x8192x1024 : S_.BroadcastsInDim S4x8192x1024 (![] : Fin 0 → Fin S4x8192x1024.rank)
  bcast_S_S1x1024x1792 : S_.BroadcastsInDim S1x1024x1792 (![] : Fin 0 → Fin S1x1024x1792.rank)
  bcast_S_S4x256x512 : S_.BroadcastsInDim S4x256x512 (![] : Fin 0 → Fin S4x256x512.rank)

variable [Facts]

def fn {F : FTy → Type} [FloatOps F] (main_arg0 : FVec F S4x8192x1024 .f32) (main_arg1 : FVec F S1x1024x1792 .f32) (main_arg2 : FVec F S1x768 .f32) (main_arg3 : FVec F S1x768 .f32) (main_arg4 : FVec F S1x12x128x128 .f32) (main_arg5 : FVec F S1x12x128 .f32) (main_arg6 : FVec F S4x256x512 .bf16) : IVec S4x8192x1024 1 × IVec S1x1024x1792 1 × IVec S4x256x512 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S1x1024x1792 .f32 := Host.absf main_arg1
  let main_cst_0 : FVec F S_ .f32 := constant S_ .f32 0x7F800000#32
  let main_v4 : FVec F S1x1024x1792 .f32 := broadcastInDim S1x1024x1792 ![] bcast_S_S1x1024x1792 main_cst_0
  let main_v5 : IVec S1x1024x1792 1 := cmpf .olt main_v3 main_v4
  let main_v6 : FVec F S4x256x512 .bf16 := Host.absf main_arg6
  let main_cst_1 : FVec F S_ .bf16 := constant S_ .bf16 0x7F80#16
  let main_v7 : FVec F S4x256x512 .bf16 := broadcastInDim S4x256x512 ![] bcast_S_S4x256x512 main_cst_1
  let main_v8 : IVec S4x256x512 1 := cmpf .olt main_v6 main_v7
  (main_v2, main_v5, main_v8)
-- ==== Pre_finite3.lean ====
abbrev S4x8192x1024 : Shape := ⟨3, ![4, 8192, 1024]⟩
abbrev S1x1024x2560 : Shape := ⟨3, ![1, 1024, 2560]⟩
abbrev S4x256x512 : Shape := ⟨3, ![4, 256, 512]⟩
abbrev S_ : Shape := ⟨0, ![]⟩

class Facts : Prop where
  bcast_S_S4x8192x1024 : S_.BroadcastsInDim S4x8192x1024 (![] : Fin 0 → Fin S4x8192x1024.rank)
  bcast_S_S1x1024x2560 : S_.BroadcastsInDim S1x1024x2560 (![] : Fin 0 → Fin S1x1024x2560.rank)
  bcast_S_S4x256x512 : S_.BroadcastsInDim S4x256x512 (![] : Fin 0 → Fin S4x256x512.rank)

variable [Facts]

def fn {F : FTy → Type} [FloatOps F] (main_arg0 : FVec F S4x8192x1024 .f32) (main_arg1 : FVec F S1x1024x2560 .f32) (main_arg2 : FVec F S4x256x512 .bf16) : IVec S4x8192x1024 1 × IVec S1x1024x2560 1 × IVec S4x256x512 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S1x1024x2560 .f32 := Host.absf main_arg1
  let main_cst_0 : FVec F S_ .f32 := constant S_ .f32 0x7F800000#32
  let main_v4 : FVec F S1x1024x2560 .f32 := broadcastInDim S1x1024x2560 ![] bcast_S_S1x1024x2560 main_cst_0
  let main_v5 : IVec S1x1024x2560 1 := cmpf .olt main_v3 main_v4
  let main_v6 : FVec F S4x256x512 .bf16 := Host.absf main_arg2
  let main_cst_1 : FVec F S_ .bf16 := constant S_ .bf16 0x7F80#16
  let main_v7 : FVec F S4x256x512 .bf16 := broadcastInDim S4x256x512 ![] bcast_S_S4x256x512 main_cst_1
  let main_v8 : IVec S4x256x512 1 := cmpf .olt main_v6 main_v7
  (main_v2, main_v5, main_v8)
-- ==== Gmlp.lean ====
abbrev S4x8192x1024 : Shape := ⟨3, ![4, 8192, 1024]⟩
abbrev S1x1024x1792 : Shape := ⟨3, ![1, 1024, 1792]⟩
abbrev S1x768 : Shape := ⟨2, ![1, 768]⟩
abbrev S1x12x128x128 : Shape := ⟨4, ![1, 12, 128, 128]⟩
abbrev S1x12x128 : Shape := ⟨3, ![1, 12, 128]⟩
abbrev S4x256x512 : Shape := ⟨3, ![4, 256, 512]⟩
abbrev S12x128 : Shape := ⟨2, ![12, 128]⟩
abbrev S128x12 : Shape := ⟨2, ![128, 12]⟩
abbrev S128x12x64 : Shape := ⟨3, ![128, 12, 64]⟩
abbrev S128x768 : Shape := ⟨2, ![128, 768]⟩
abbrev S1024x1792 : Shape := ⟨2, ![1024, 1792]⟩
abbrev S768 : Shape := ⟨1, ![768]⟩
abbrev S12x128x128 : Shape := ⟨3, ![12, 128, 128]⟩
abbrev S4x8192x768 : Shape := ⟨3, ![4, 8192, 768]⟩
abbrev S4x8192x256 : Shape := ⟨3, ![4, 8192, 256]⟩
abbrev S1x1024x1024 : Shape := ⟨3, ![1, 1024, 1024]⟩
abbrev S1x256x512 : Shape := ⟨3, ![1, 256, 512]⟩
abbrev S1x1024x768 : Shape := ⟨3, ![1, 1024, 768]⟩
abbrev S1x1024x256 : Shape := ⟨3, ![1, 1024, 256]⟩
abbrev S128x128 : Shape := ⟨2, ![128, 128]⟩
abbrev S1x128 : Shape := ⟨2, ![1, 128]⟩
abbrev S1x128x128 : Shape := ⟨3, ![1, 128, 128]⟩
abbrev S128x256 : Shape := ⟨2, ![128, 256]⟩
abbrev S1x512x1024 : Shape := ⟨3, ![1, 512, 1024]⟩
abbrev S512x1024 : Shape := ⟨2, ![512, 1024]⟩
abbrev S1024x768 : Shape := ⟨2, ![1024, 768]⟩
abbrev S512x768 : Shape := ⟨2, ![512, 768]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S256x128 : Shape := ⟨2, ![256, 128]⟩
abbrev S256x512 : Shape := ⟨2, ![256, 512]⟩
abbrev S256x256 : Shape := ⟨2, ![256, 256]⟩
abbrev S1x256 : Shape := ⟨2, ![1, 256]⟩
abbrev S512x128 : Shape := ⟨2, ![512, 128]⟩
abbrev S1x512x256 : Shape := ⟨3, ![1, 512, 256]⟩

abbrev nBuf : Space → Nat
  | .hbm => 21
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1x1024x1792, .f32⟩
  | .hbm, ⟨2, _⟩ => ⟨S1x768, .f32⟩
  | .hbm, ⟨3, _⟩ => ⟨S1x768, .f32⟩
  | .hbm, ⟨4, _⟩ => ⟨S1x12x128x128, .f32⟩
  | .hbm, ⟨5, _⟩ => ⟨S1x12x128, .f32⟩
  | .hbm, ⟨6, _⟩ => ⟨S4x256x512, .bf16⟩
  | .hbm, ⟨7, _⟩ => ⟨S12x128, .f32⟩
  | .hbm, ⟨8, _⟩ => ⟨S128x12, .f32⟩
  | .hbm, ⟨9, _⟩ => ⟨S128x12x64, .f32⟩
  | .hbm, ⟨10, _⟩ => ⟨S128x768, .f32⟩
  | .hbm, ⟨11, _⟩ => ⟨S1024x1792, .f32⟩
  | .hbm, ⟨12, _⟩ => ⟨S1024x1792, .bf16⟩
  | .hbm, ⟨13, _⟩ => ⟨S768, .f32⟩
  | .hbm, ⟨14, _⟩ => ⟨S1x768, .f32⟩
  | .hbm, ⟨15, _⟩ => ⟨S768, .f32⟩
  | .hbm, ⟨16, _⟩ => ⟨S1x768, .f32⟩
  | .hbm, ⟨17, _⟩ => ⟨S12x128x128, .f32⟩
  | .hbm, ⟨18, _⟩ => ⟨S12x128x128, .bf16⟩
  | .hbm, ⟨19, _⟩ => ⟨S4x8192x768, .bf16⟩
  | .hbm, ⟨20, _⟩ => ⟨S4x8192x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x1792, .bf16⟩
  | .local _ .vmem, ⟨3, _⟩ => ⟨S1x768, .f32⟩
  | .local _ .vmem, ⟨4, _⟩ => ⟨S1x768, .f32⟩
  | .local _ .vmem, ⟨5, _⟩ => ⟨S12x128x128, .bf16⟩
  | .local _ .vmem, ⟨6, _⟩ => ⟨S128x768, .f32⟩
  | .local _ .vmem, ⟨7, _⟩ => ⟨S1x256x512, .bf16⟩
  | .local _ .vmem, ⟨8, _⟩ => ⟨S1x256x512, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x256, .bf16⟩
  | .local _ .vmem, ⟨12, _⟩ => ⟨S1x1024x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S12x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GmlpRefIdeal.lean ====
abbrev S4x8192x1024 : Shape := ⟨3, ![4, 8192, 1024]⟩
abbrev S1x1024x1792 : Shape := ⟨3, ![1, 1024, 1792]⟩
abbrev S1x768 : Shape := ⟨2, ![1, 768]⟩
abbrev S1x12x128x128 : Shape := ⟨4, ![1, 12, 128, 128]⟩
abbrev S1x12x128 : Shape := ⟨3, ![1, 12, 128]⟩
abbrev S4x256x512 : Shape := ⟨3, ![4, 256, 512]⟩
abbrev S1024x1792 : Shape := ⟨2, ![1024, 1792]⟩
abbrev S4x8192x1792 : Shape := ⟨3, ![4, 8192, 1792]⟩
abbrev S4x8192x768 : Shape := ⟨3, ![4, 8192, 768]⟩
abbrev S4x8192x256 : Shape := ⟨3, ![4, 8192, 256]⟩
abbrev S_ : Shape := ⟨0, ![]⟩
abbrev S768 : Shape := ⟨1, ![768]⟩
abbrev S4x8192 : Shape := ⟨2, ![4, 8192]⟩
abbrev S4x8192x1 : Shape := ⟨3, ![4, 8192, 1]⟩
abbrev S1x1x768 : Shape := ⟨3, ![1, 1, 768]⟩
abbrev S4x64x128x12x64 : Shape := ⟨5, ![4, 64, 128, 12, 64]⟩
abbrev S12x128x128 : Shape := ⟨3, ![12, 128, 128]⟩
abbrev S128x128 : Shape := ⟨2, ![128, 128]⟩
abbrev S1x128x128 : Shape := ⟨3, ![1, 128, 128]⟩
abbrev S12x4x64x64x128 : Shape := ⟨5, ![12, 4, 64, 64, 128]⟩
abbrev S12x128 : Shape := ⟨2, ![12, 128]⟩
abbrev S128x12 : Shape := ⟨2, ![128, 12]⟩
abbrev S1x1x128x12x1 : Shape := ⟨5, ![1, 1, 128, 12, 1]⟩
abbrev S4x256x256 : Shape := ⟨3, ![4, 256, 256]⟩
abbrev S4x8192x4x64 : Shape := ⟨4, ![4, 8192, 4, 64]⟩
abbrev S4x256x4x64 : Shape := ⟨4, ![4, 256, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩

abbrev nBuf : Space → Nat
  | .hbm => 131
  | .vmem => 0
  | .smem => 0
  | _ => 0

abbrev hbmTy0_0 (i : Nat) : BufTy := match i % 128 with
  | 0 => ⟨S4x8192x1024, .f32⟩
  | 1 => ⟨S1x1024x1792, .f32⟩
  | 2 => ⟨S1x768, .f32⟩
  | 3 => ⟨S1x768, .f32⟩
  | 4 => ⟨S1x12x128x128, .f32⟩
  | 5 => ⟨S1x12x128, .f32⟩
  | 6 => ⟨S4x256x512, .bf16⟩
  | 7 => ⟨S1024x1792, .f32⟩
  | 8 => ⟨S4x8192x1792, .f32⟩
  | 9 => ⟨S4x8192x768, .f32⟩
  | 10 => ⟨S4x8192x768, .f32⟩
  | 11 => ⟨S4x8192x256, .f32⟩
  | 12 => ⟨S4x8192x768, .f32⟩
  | 13 => ⟨S4x8192x768, .f32⟩
  | 14 => ⟨S_, .f32⟩
  | 15 => ⟨S4x8192x768, .f32⟩
  | 16 => ⟨S4x8192x768, .f32⟩
  | 17 => ⟨S4x8192x768, .f32⟩
  | 18 => ⟨S_, .f32⟩
  | 19 => ⟨S4x8192x768, .f32⟩
  | 20 => ⟨S4x8192x768, .f32⟩
  | 21 => ⟨S4x8192x768, .f32⟩
  | 22 => ⟨S_, .f32⟩
  | 23 => ⟨S4x8192x768, .f32⟩
  | 24 => ⟨S4x8192x768, .f32⟩
  | 25 => ⟨S_, .f32⟩
  | 26 => ⟨S4x8192x768, .f32⟩
  | 27 => ⟨S4x8192x768, .f32⟩
  | 28 => ⟨S4x8192x768, .f32⟩
  | 29 => ⟨S4x8192x768, .f32⟩
  | 30 => ⟨S4x8192x768, .f32⟩
  | 31 => ⟨S_, .f32⟩
  | 32 => ⟨S4x8192x768, .f32⟩
  | 33 => ⟨S4x8192x768, .f32⟩
  | 34 => ⟨S4x8192x768, .f32⟩
  | 35 => ⟨S_, .f32⟩
  | 36 => ⟨S4x8192x768, .f32⟩
  | 37 => ⟨S4x8192x768, .f32⟩
  | 38 => ⟨S4x8192x768, .f32⟩
  | 39 => ⟨S_, .f32⟩
  | 40 => ⟨S4x8192x768, .f32⟩
  | 41 => ⟨S4x8192x768, .f32⟩
  | 42 => ⟨S_, .f32⟩
  | 43 => ⟨S4x8192x768, .f32⟩
  | 44 => ⟨S4x8192x768, .f32⟩
  | 45 => ⟨S4x8192x768, .f32⟩
  | 46 => ⟨S768, .f32⟩
  | 47 => ⟨S768, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S4x8192x768, .f32⟩
  | 55 => ⟨S4x8192x768, .f32⟩
  | 56 => ⟨S4x8192x768, .f32⟩
  | 57 => ⟨S_, .f32⟩
  | 58 => ⟨S4x8192, .f32⟩
  | 59 => ⟨S4x8192x1, .f32⟩
  | 60 => ⟨S_, .f32⟩
  | 61 => ⟨S4x8192x1, .f32⟩
  | 62 => ⟨S4x8192x1, .f32⟩
  | 63 => ⟨S4x8192x768, .f32⟩
  | 64 => ⟨S4x8192x768, .f32⟩
  | 65 => ⟨S_, .f32⟩
  | 66 => ⟨S4x8192x1, .f32⟩
  | 67 => ⟨S4x8192x1, .f32⟩
  | 68 => ⟨S4x8192x1, .f32⟩
  | 69 => ⟨S4x8192x768, .f32⟩
  | 70 => ⟨S4x8192x768, .f32⟩
  | 71 => ⟨S1x1x768, .f32⟩
  | 72 => ⟨S4x8192x768, .f32⟩
  | 73 => ⟨S4x8192x768, .f32⟩
  | 74 => ⟨S1x1x768, .f32⟩
  | 75 => ⟨S4x8192x768, .f32⟩
  | 76 => ⟨S4x8192x768, .f32⟩
  | 77 => ⟨S4x64x128x12x64, .f32⟩
  | 78 => ⟨S12x128x128, .f32⟩
  | 79 => ⟨S_, .f32⟩
  | 80 => ⟨S128x128, .f32⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .f32⟩
  | 88 => ⟨S128x128, .f32⟩
  | 89 => ⟨S128x128, .f32⟩
  | 90 => ⟨S1x128x128, .f32⟩
  | 91 => ⟨S12x128x128, .f32⟩
  | 92 => ⟨S12x128x128, .f32⟩
  | 93 => ⟨S12x4x64x64x128, .f32⟩
  | 94 => ⟨S4x64x128x12x64, .f32⟩
  | 95 => ⟨S12x128, .f32⟩
  | 96 => ⟨S128x12, .f32⟩
  | 97 => ⟨S1x1x128x12x1, .f32⟩
  | 98 => ⟨S4x64x128x12x64, .f32⟩
  | 99 => ⟨S4x64x128x12x64, .f32⟩
  | 100 => ⟨S4x8192x768, .f32⟩
  | 101 => ⟨S4x8192x768, .f32⟩
  | 102 => ⟨S4x256x512, .f32⟩
  | 103 => ⟨S4x256x256, .f32⟩
  | 104 => ⟨S4x256x256, .f32⟩
  | 105 => ⟨S4x8192x4x64, .f32⟩
  | 106 => ⟨S4x256x4x64, .f32⟩
  | 107 => ⟨S4x256x4x64, .f32⟩
  | 108 => ⟨S4x4x8192x256, .f32⟩
  | 109 => ⟨S_, .f32⟩
  | 110 => ⟨S4x4x8192x256, .f32⟩
  | 111 => ⟨S4x4x8192x256, .f32⟩
  | 112 => ⟨S_, .f32⟩
  | 113 => ⟨S4x4x8192, .f32⟩
  | 114 => ⟨S_, .f32⟩
  | 115 => ⟨S4x4x8192, .f32⟩
  | 116 => ⟨S4x4x8192, .f32⟩
  | 117 => ⟨S4x4x8192x1, .f32⟩
  | 118 => ⟨S4x4x8192x256, .f32⟩
  | 119 => ⟨S4x4x8192x256, .f32⟩
  | 120 => ⟨S4x4x8192x256, .f32⟩
  | 121 => ⟨S_, .f32⟩
  | 122 => ⟨S4x4x8192, .f32⟩
  | 123 => ⟨S4x4x8192x1, .f32⟩
  | 124 => ⟨S4x4x8192x256, .f32⟩
  | 125 => ⟨S4x4x8192x256, .f32⟩
  | 126 => ⟨S4x4x64x8192, .f32⟩
  | 127 => ⟨S4x8192x4x64, .f32⟩
  | _ => ⟨S4x8192x1024, .f32⟩

abbrev hbmTy0_1 (i : Nat) : BufTy := match i % 128 with
  | 0 => ⟨S4x8192x256, .f32⟩
  | 1 => ⟨S4x8192x768, .bf16⟩
  | 2 => ⟨S4x8192x256, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_cst : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== Post.lean ====
abbrev S4x8192x1024 : Shape := ⟨3, ![4, 8192, 1024]⟩
abbrev S4x8192x768 : Shape := ⟨3, ![4, 8192, 768]⟩
abbrev S4x8192x256 : Shape := ⟨3, ![4, 8192, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S1x1024x1024 : Shape := ⟨3, ![1, 1024, 1024]⟩
abbrev S1x1024x768 : Shape := ⟨3, ![1, 1024, 768]⟩
abbrev S1x1024x256 : Shape := ⟨3, ![1, 1024, 256]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x512x768 : Shape := ⟨3, ![1, 512, 768]⟩
abbrev S512x768 : Shape := ⟨2, ![512, 768]⟩
abbrev S1x768x1024 : Shape := ⟨3, ![1, 768, 1024]⟩
abbrev S768x1024 : Shape := ⟨2, ![768, 1024]⟩
abbrev S512x1024 : Shape := ⟨2, ![512, 1024]⟩
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x2816 : Shape := ⟨2, ![512, 2816]⟩
abbrev S2816x1024 : Shape := ⟨2, ![2816, 1024]⟩

abbrev nBuf : Space → Nat
  | .hbm => 18
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .bf16⟩
  | .hbm, ⟨2, _⟩ => ⟨S4x8192x256, .bf16⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S2x1024, .f32⟩
  | .hbm, ⟨9, _⟩ => ⟨S2x1024, .f32⟩
  | .hbm, ⟨10, _⟩ => ⟨S2x1024x1024, .bf16⟩
  | .hbm, ⟨11, _⟩ => ⟨S2x1024x5632, .bf16⟩
  | .hbm, ⟨12, _⟩ => ⟨S2x2816x1024, .bf16⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostRefIdeal.lean ====
abbrev S4x8192x1024 : Shape := ⟨3, ![4, 8192, 1024]⟩
abbrev S4x8192x768 : Shape := ⟨3, ![4, 8192, 768]⟩
abbrev S4x8192x256 : Shape := ⟨3, ![4, 8192, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S1x2816x1024 : Shape := ⟨3, ![1, 2816, 1024]⟩
abbrev S2816x1024 : Shape := ⟨2, ![2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .bf16⟩
  | .hbm, ⟨2, _⟩ => ⟨S4x8192x256, .bf16⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S2x1024, .f32⟩
  | .hbm, ⟨9, _⟩ => ⟨S2x1024, .f32⟩
  | .hbm, ⟨10, _⟩ => ⟨S4x8192x1024, .bf16⟩
  | .hbm, ⟨11, _⟩ => ⟨S4x8192x1024, .f32⟩
  | .hbm, ⟨12, _⟩ => ⟨S1x1024x1024, .f32⟩
  | .hbm, ⟨13, _⟩ => ⟨S1024x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x8192x1, .f32⟩
  | .hbm, ⟨44, _⟩ => ⟨S4x8192x1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1024x5632, .f32⟩
  | .hbm, ⟨53, _⟩ => ⟨S1024x5632, .f32⟩
  | .hbm, ⟨54, _⟩ => ⟨S4x8192x5632, .f32⟩
  | .hbm, ⟨55, _⟩ => ⟨S4x8192x2816, .f32⟩
  | .hbm, ⟨56, _⟩ => ⟨S4x8192x2816, .f32⟩
  | .hbm, ⟨57, _⟩ => ⟨S_, .f32⟩
  | .hbm, ⟨58, _⟩ => ⟨S4x8192x1024, .f32⟩
  | .hbm, ⟨59, _⟩ => ⟨S4x8192x1024, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S1x2816x1024, .f32⟩
  | .hbm, ⟨71, _⟩ => ⟨S2816x1024, .f32⟩
  | .hbm, ⟨72, _⟩ => ⟨S4x8192x1024, .f32⟩
  | .hbm, ⟨73, _⟩ => ⟨S4x8192x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S1024, .f32⟩
  | .hbm, ⟨78, _⟩ => ⟨S_, .f32⟩
  | .hbm, ⟨79, _⟩ => ⟨S4x8192, .f32⟩
  | .hbm, ⟨80, _⟩ => ⟨S4x8192x1, .f32⟩
  | .hbm, ⟨81, _⟩ => ⟨S_, .f32⟩
  | .hbm, ⟨82, _⟩ => ⟨S4x8192x1, .f32⟩
  | .hbm, ⟨83, _⟩ => ⟨S4x8192x1, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S_, .f32⟩
  | .hbm, ⟨88, _⟩ => ⟨S4x8192, .f32⟩
  | .hbm, ⟨89, _⟩ => ⟨S4x8192x1, .f32⟩
  | .hbm, ⟨90, _⟩ => ⟨S_, .f32⟩
  | .hbm, ⟨91, _⟩ => ⟨S4x8192x1, .f32⟩
  | .hbm, ⟨92, _⟩ => ⟨S4x8192x1, .f32⟩
  | .hbm, ⟨93, _⟩ => ⟨S4x8192x1024, .f32⟩
  | .hbm, ⟨94, _⟩ => ⟨S4x8192x1024, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1024, .f32⟩
  | .hbm, ⟨100, _⟩ => ⟨S4x8192x1024, .f32⟩
  | .hbm, ⟨101, _⟩ => ⟨S1x1x1024, .f32⟩
  | .hbm, ⟨102, _⟩ => ⟨S4x8192x1024, .f32⟩
  | .hbm, ⟨103, _⟩ => ⟨S4x8192x1024, .f32⟩
  | .hbm, ⟨104, _⟩ => ⟨S1x1x1024, .f32⟩
  | .hbm, ⟨105, _⟩ => ⟨S4x8192x1024, .f32⟩
  | .hbm, ⟨106, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Front.lean ====
abbrev S4x8192x1024 : Shape := ⟨3, ![4, 8192, 1024]⟩
abbrev S1x1024x2560 : Shape := ⟨3, ![1, 1024, 2560]⟩
abbrev S4x256x512 : Shape := ⟨3, ![4, 256, 512]⟩
abbrev S1024x2560 : Shape := ⟨2, ![1024, 2560]⟩
abbrev S1024x1536 : Shape := ⟨2, ![1024, 1536]⟩
abbrev S1024x256 : Shape := ⟨2, ![1024, 256]⟩
abbrev S1024x1792 : Shape := ⟨2, ![1024, 1792]⟩
abbrev S1024x768 : Shape := ⟨2, ![1024, 768]⟩
abbrev S768x1024 : Shape := ⟨2, ![768, 1024]⟩
abbrev S4x8192x768 : Shape := ⟨3, ![4, 8192, 768]⟩
abbrev S4x32x12x80x256 : Shape := ⟨5, ![4, 32, 12, 80, 256]⟩
abbrev S4x8x4x768 : Shape := ⟨4, ![4, 8, 4, 768]⟩
abbrev S4x8192x256 : Shape := ⟨3, ![4, 8192, 256]⟩
abbrev S1x1024x1024 : Shape := ⟨3, ![1, 1024, 1024]⟩
abbrev S1x256x512 : Shape := ⟨3, ![1, 256, 512]⟩
abbrev S1x1024x768 : Shape := ⟨3, ![1, 1024, 768]⟩
abbrev S1x4x12x80x256 : Shape := ⟨5, ![1, 4, 12, 80, 256]⟩
abbrev S1x1x4x768 : Shape := ⟨4, ![1, 1, 4, 768]⟩
abbrev S1x1024x256 : Shape := ⟨3, ![1, 1024, 256]⟩
abbrev S16x256 : Shape := ⟨2, ![16, 256]⟩
abbrev S1x512x1024 : Shape := ⟨3, ![1, 512, 1024]⟩
abbrev S512x1024 : Shape := ⟨2, ![512, 1024]⟩
abbrev S512x768 : Shape := ⟨2, ![512, 768]⟩
abbrev S1x512x768 : Shape := ⟨3, ![1, 512, 768]⟩
abbrev S768x512 : Shape := ⟨2, ![768, 512]⟩
abbrev S256x768 : Shape := ⟨2, ![256, 768]⟩
abbrev S768 : Shape := ⟨1, ![768]⟩
abbrev S1x768 : Shape := ⟨2, ![1, 768]⟩
abbrev S1x1x1x768 : Shape := ⟨4, ![1, 1, 1, 768]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S512x256 : Shape := ⟨2, ![512, 256]⟩
abbrev S256x512 : Shape := ⟨2, ![256, 512]⟩
abbrev S256x256 : Shape := ⟨2, ![256, 256]⟩
abbrev S1x256 : Shape := ⟨2, ![1, 256]⟩
abbrev S512x128 : Shape := ⟨2, ![512, 128]⟩
abbrev S1x128 : Shape := ⟨2, ![1, 128]⟩
abbrev S256x128 : Shape := ⟨2, ![256, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 15
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S4x256x512, .bf16⟩
  | .hbm, ⟨3, _⟩ => ⟨S1024x2560, .f32⟩
  | .hbm, ⟨4, _⟩ => ⟨S1024x2560, .bf16⟩
  | .hbm, ⟨5, _⟩ => ⟨S1024x1536, .bf16⟩
  | .hbm, ⟨6, _⟩ => ⟨S1024x256, .bf16⟩
  | .hbm, ⟨7, _⟩ => ⟨S1024x1792, .bf16⟩
  | .hbm, ⟨8, _⟩ => ⟨S1024x768, .bf16⟩
  | .hbm, ⟨9, _⟩ => ⟨S768x1024, .bf16⟩
  | .hbm, ⟨10, _⟩ => ⟨S4x8192x768, .bf16⟩
  | .hbm, ⟨11, _⟩ => ⟨S4x8192x768, .bf16⟩
  | .hbm, ⟨12, _⟩ => ⟨S4x32x12x80x256, .bf16⟩
  | .hbm, ⟨13, _⟩ => ⟨S4x8x4x768, .f32⟩
  | .hbm, ⟨14, _⟩ => ⟨S4x8192x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x1792, .bf16⟩
  | .local _ .vmem, ⟨3, _⟩ => ⟨S768x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x4x12x80x256, .bf16⟩
  | .local _ .vmem, ⟨11, _⟩ => ⟨S1x4x12x80x256, .bf16⟩
  | .local _ .vmem, ⟨12, _⟩ => ⟨S1x1x4x768, .f32⟩
  | .local _ .vmem, ⟨13, _⟩ => ⟨S1x1x4x768, .f32⟩
  | .local _ .vmem, ⟨14, _⟩ => ⟨S1x1024x256, .bf16⟩
  | .local _ .vmem, ⟨15, _⟩ => ⟨S1x1024x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x12x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FrontRefIdeal.lean ====
abbrev S4x8192x1024 : Shape := ⟨3, ![4, 8192, 1024]⟩
abbrev S1x1024x2560 : Shape := ⟨3, ![1, 1024, 2560]⟩
abbrev S4x256x512 : Shape := ⟨3, ![4, 256, 512]⟩
abbrev S1024x2560 : Shape := ⟨2, ![1024, 2560]⟩
abbrev S4x8192x2560 : Shape := ⟨3, ![4, 8192, 2560]⟩
abbrev S4x8192x768 : Shape := ⟨3, ![4, 8192, 768]⟩
abbrev S4x8192x256 : Shape := ⟨3, ![4, 8192, 256]⟩
abbrev S_ : Shape := ⟨0, ![]⟩
abbrev S4x32x256x768 : Shape := ⟨4, ![4, 32, 256, 768]⟩
abbrev S4x32x768 : Shape := ⟨3, ![4, 32, 768]⟩
abbrev S4x8x4x768 : Shape := ⟨4, ![4, 8, 4, 768]⟩
abbrev S4x32x256x12x64 : Shape := ⟨5, ![4, 32, 256, 12, 64]⟩
abbrev S4x32x12x64x256 : Shape := ⟨5, ![4, 32, 12, 64, 256]⟩
abbrev S4x32x12x16x256 : Shape := ⟨5, ![4, 32, 12, 16, 256]⟩
abbrev S4x32x12x80x256 : Shape := ⟨5, ![4, 32, 12, 80, 256]⟩
abbrev S4x256x256 : Shape := ⟨3, ![4, 256, 256]⟩
abbrev S4x8192x4x64 : Shape := ⟨4, ![4, 8192, 4, 64]⟩
abbrev S4x256x4x64 : Shape := ⟨4, ![4, 256, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S4x256x512, .bf16⟩
  | .hbm, ⟨3, _⟩ => ⟨S1024x2560, .f32⟩
  | .hbm, ⟨4, _⟩ => ⟨S4x8192x2560, .f32⟩
  | .hbm, ⟨5, _⟩ => ⟨S4x8192x768, .f32⟩
  | .hbm, ⟨6, _⟩ => ⟨S4x8192x768, .f32⟩
  | .hbm, ⟨7, _⟩ => ⟨S4x8192x768, .f32⟩
  | .hbm, ⟨8, _⟩ => ⟨S4x8192x256, .f32⟩
  | .hbm, ⟨9, _⟩ => ⟨S_, .f32⟩
  | .hbm, ⟨10, _⟩ => ⟨S4x8192x768, .f32⟩
  | .hbm, ⟨11, _⟩ => ⟨S4x8192x768, .f32⟩
  | .hbm, ⟨12, _⟩ => ⟨S4x32x256x768, .f32⟩
  | .hbm, ⟨13, _⟩ => ⟨S_, .f32⟩
  | .hbm, ⟨14, _⟩ => ⟨S4x32x768, .f32⟩
  | .hbm, ⟨15, _⟩ => ⟨S_, .f32⟩
  | .hbm, ⟨16, _⟩ => ⟨S4x32x768, .f32⟩
  | .hbm, ⟨17, _⟩ => ⟨S4x32x768, .f32⟩
  | .hbm, ⟨18, _⟩ => ⟨S4x8x4x768, .f32⟩
  | .hbm, ⟨19, _⟩ => ⟨S4x32x256x12x64, .f32⟩
  | .hbm, ⟨20, _⟩ => ⟨S4x32x12x64x256, .f32⟩
  | .hbm, ⟨21, _⟩ => ⟨S_, .f32⟩
  | .hbm, ⟨22, _⟩ => ⟨S4x32x12x16x256, .f32⟩
  | .hbm, ⟨23, _⟩ => ⟨S4x32x12x80x256, .f32⟩
  | .hbm, ⟨24, _⟩ => ⟨S4x256x512, .f32⟩
  | .hbm, ⟨25, _⟩ => ⟨S4x256x256, .f32⟩
  | .hbm, ⟨26, _⟩ => ⟨S4x256x256, .f32⟩
  | .hbm, ⟨27, _⟩ => ⟨S4x8192x4x64, .f32⟩
  | .hbm, ⟨28, _⟩ => ⟨S4x256x4x64, .f32⟩
  | .hbm, ⟨29, _⟩ => ⟨S4x256x4x64, .f32⟩
  | .hbm, ⟨30, _⟩ => ⟨S4x4x8192x256, .f32⟩
  | .hbm, ⟨31, _⟩ => ⟨S_, .f32⟩
  | .hbm, ⟨32, _⟩ => ⟨S4x4x8192x256, .f32⟩
  | .hbm, ⟨33, _⟩ => ⟨S4x4x8192x256, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192x1, .f32⟩
  | .hbm, ⟨40, _⟩ => ⟨S4x4x8192x256, .f32⟩
  | .hbm, ⟨41, _⟩ => ⟨S4x4x8192x256, .f32⟩
  | .hbm, ⟨42, _⟩ => ⟨S4x4x8192x256, .f32⟩
  | .hbm, ⟨43, _⟩ => ⟨S_, .f32⟩
  | .hbm, ⟨44, _⟩ => ⟨S4x4x8192, .f32⟩
  | .hbm, ⟨45, _⟩ => ⟨S4x4x8192x1, .f32⟩
  | .hbm, ⟨46, _⟩ => ⟨S4x4x8192x256, .f32⟩
  | .hbm, ⟨47, _⟩ => ⟨S4x4x8192x256, .f32⟩
  | .hbm, ⟨48, _⟩ => ⟨S4x4x64x8192, .f32⟩
  | .hbm, ⟨49, _⟩ => ⟨S4x8192x4x64, .f32⟩
  | .hbm, ⟨50, _⟩ => ⟨S4x8192x256, .f32⟩
  | .hbm, ⟨51, _⟩ => ⟨S4x8192x768, .bf16⟩
  | .hbm, ⟨52, _⟩ => ⟨S4x8192x768, .bf16⟩
  | .hbm, ⟨53, _⟩ => ⟨S4x32x12x80x256, .bf16⟩
  | .hbm, ⟨54, _⟩ => ⟨S4x8192x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.RefFrames.lean ====
/- Each reference runs, leaves its arguments as they were, and ends with every semaphore at zero. -/
module

public import proofs.«01_k».proof.Defs
public import proofs.«01_k».proof.Proof.Gen.GmlpRefIdeal
public import proofs.«01_k».proof.Proof.Gen.GmlpRefIdeal.Run
public import proofs.«01_k».proof.Proof.Gen.PostRefIdeal
public import proofs.«01_k».proof.Proof.Gen.PostRefIdeal.Run
public import proofs.«01_k».proof.Proof.Gen.FrontRefIdeal
public import proofs.«01_k».proof.Proof.Gen.FrontRefIdeal.Run
public import Idealize.ShloMosaic.Lib.Claim
public import Idealize.ShloMosaic.Adequacy
public import Idealize.ShloMosaic.Init

@[expose] public section

set_option maxRecDepth 16384

noncomputable section

namespace Cert.RefFrames

open Idealize.ShloMosaic Idealize.ShloMosaic.TcCoe Idealize.SL.Sem

/-- The reference of the block after the mixer leaves its arguments unchanged. -/
theorem post : Cert.quiescent_PostRefIdeal := fun m g _ =>
  (θ_run Cert.PostRefIdeal.defs _ _).mono (fun r h => ⟨fun c => (h c).2, sem_eq_zero_of_no_sems (by decide) r.2⟩)
    (Cert.PostRefIdeal.Value.run m g)

/-- The mixer's reference leaves its arguments unchanged. -/
theorem gmlp : Cert.quiescent_GmlpRefIdeal := fun m g _ =>
  (θ_run Cert.GmlpRefIdeal.defs _ _).mono (fun r h => ⟨fun c => (h c).2.2, sem_eq_zero_of_no_sems (by decide) r.2⟩)
    (Cert.GmlpRefIdeal.Value.run m g)

/-- The reference of the projections before the block attention leaves its arguments unchanged. -/
theorem front : Cert.quiescent_FrontRefIdeal := fun m g _ =>
  (θ_run Cert.FrontRefIdeal.defs _ _).mono (fun r h => ⟨fun c => (h c).2.2.2.2.2, sem_eq_zero_of_no_sems (by decide) r.2⟩)
    (Cert.FrontRefIdeal.Value.run m g)

end Cert.RefFrames

end
-- ==== Proof.RowSpec.lean ====
/- Row-wise formulas over the extended reals that the value proofs meet in the middle: a layer norm of one row, the
   feed-forward block of one row, and small facts about sums. Nothing here mentions a program. -/
module

public import Idealize.ShloMosaic.Lib.Pointwise

@[expose] public section

noncomputable section

namespace Cert.Row

open Idealize.ShloMosaic

/-- The layer norm of a row `h` at position `j`: mean and variance are sums divided by `c`, `e` is added to the variance,
    then the scale `g` and the shift `b`. -/
def layerNorm {n : ℕ} (c e : EReal) (h g b : Fin n → EReal) (j : Fin n) : EReal :=
  (h j - Ideal.div (∑ k, h k) c)
    * Ideal.rsqrt (Ideal.div (∑ k, (h k - Ideal.div (∑ l, h l) c) * (h k - Ideal.div (∑ l, h l) c)) c + e)
    * g j + b j

/-- Equal rows have equal layer norms. -/
theorem layerNorm_congr {n : ℕ} {c e : EReal} {h h' g g' b b' : Fin n → EReal} (hh : ∀ k, h k = h' k)
    (hg : ∀ k, g k = g' k) (hb : ∀ k, b k = b' k) (j : Fin n) : layerNorm c e h g b j = layerNorm c e h' g' b' j := by
  obtain rfl : h = h' := funext hh
  obtain rfl : g = g' := funext hg
  obtain rfl : b = b' := funext hb
  rfl

/-- The residual row before the first layer norm: `a · x` plus the projection of the two halves of the mixed row. -/
def mixed (a : EReal) (x : Fin 1024 → EReal) (mix : Fin 768 → EReal) (mem : Fin 256 → EReal)
    (wo : Fin 1024 → Fin 1024 → EReal) (j : Fin 1024) : EReal :=
  a * x j + ((∑ k : Fin 768, mix k * wo ⟨k.val, by omega⟩ j) + ∑ k : Fin 256, mem k * wo ⟨768 + k.val, by omega⟩ j)

/-- The gated activation of hidden unit `f`: `g · σ(g) · u`, with gate `g` and value `u` two products of the row. -/
def gated (y : Fin 1024 → EReal) (wi : Fin 1024 → Fin 5632 → EReal) (f : Fin 2816) : EReal :=
  (∑ k : Fin 1024, y k * wi k ⟨f.val, by omega⟩) * Ideal.logistic (∑ k : Fin 1024, y k * wi k ⟨f.val, by omega⟩)
    * ∑ k : Fin 1024, y k * wi k ⟨2816 + f.val, by omega⟩

/-- The residual row before the second layer norm: `a · y` plus the down projection of the gated activations. -/
def ffn (a : EReal) (y : Fin 1024 → EReal) (act : Fin 2816 → EReal) (wd : Fin 2816 → Fin 1024 → EReal) (j : Fin 1024) : EReal :=
  a * y j + ∑ f : Fin 2816, act f * wd f j

/-- The whole block after the mixer for one row: projection, residual, layer norm, feed forward, residual, layer norm. -/
def post (a c e : EReal) (x : Fin 1024 → EReal) (mix : Fin 768 → EReal) (mem : Fin 256 → EReal)
    (wo : Fin 1024 → Fin 1024 → EReal) (g1 b1 : Fin 1024 → EReal) (wi : Fin 1024 → Fin 5632 → EReal)
    (wd : Fin 2816 → Fin 1024 → EReal) (g2 b2 : Fin 1024 → EReal) (j : Fin 1024) : EReal :=
  layerNorm c e (ffn a (layerNorm c e (mixed a x mix mem wo) g1 b1)
    (gated (layerNorm c e (mixed a x mix mem wo) g1 b1) wi) wd) g2 b2 j

end Cert.Row

end
-- ==== Proof.PostKernelValue.lean ====
/- The value of the post-mixer kernel: every row of the result is the row formula of `RowSpec` over the arguments. First
   each stored tile at an index, then the tiles put together block by block, then the blocks put together. -/
module

public import proofs.«01_k».proof.Proof.RowSpec
public import proofs.«01_k».proof.Proof.Gen.PostIdeal.Value
public import Idealize.ShloMosaic.Lib.Pipeline.ValueKit

@[expose] public section

set_option maxRecDepth 16384

noncomputable section

namespace Cert.PostIdeal.RowValue

open Cert.PostIdeal Cert.PostIdeal.Gen Idealize.ShloMosaic Idealize.ShloMosaic.TcCoe Idealize.SL.Sem
open Idealize.ShloMosaic.Pipeline (Dat)

variable (m : (ℓ : Loc nD τ sig) → Buf (Elt Ideal) ℓ)

/-- The residual weight `√2` as stored. -/
abbrev A : EReal := FloatOps.ofBits (F := Ideal) .f32 0x3FB504F3#32
/-- The row length as stored. -/
abbrev C : EReal := FloatOps.ofBits (F := Ideal) .f32 0x44800000#32
/-- The variance's small addend as stored. -/
abbrev E : EReal := FloatOps.ofBits (F := Ideal) .f32 0x3727C5AC#32

/-- The first half's normalised rows at an index. -/
theorem pay5_at (v0 : Vec Ideal S1x512x768 .bf16) (v2 : Vec Ideal S1x768x1024 .bf16) (v5 : Vec Ideal S1x512x256 .bf16)
    (v7 : Vec Ideal S1x256x1024 .bf16) (v22 : Vec Ideal S1x512x1024 .f32) (g b : Vec Ideal S1x1x1024 .f32) (p : Fin 512) (j : Fin 1024) :
    k0_pay5 (F := Ideal) (k0_pay2 v0 v2 v5 v7) (k0_pay4 v22) g b (ix2 p j)
      = Row.layerNorm C E (fun j => A * v22 (ix3 0 p j) + ((∑ k : Fin 768, v0 (ix3 0 p k) * v2 (ix3 0 k j)) + ∑ k : Fin 256, v5 (ix3 0 p k) * v7 (ix3 0 k j)))
          (fun k => g (ix3 0 0 k)) (fun k => b (ix3 0 0 k)) j := by
  pointwise [k0_pay5, k0_pay2, k0_pay4, Row.layerNorm]

/-- The second half's normalised rows at an index. -/
theorem pay13_at (v0 : Vec Ideal S1x512x768 .bf16) (v2 : Vec Ideal S1x768x1024 .bf16) (v5 : Vec Ideal S1x512x256 .bf16)
    (v7 : Vec Ideal S1x256x1024 .bf16) (v22 : Vec Ideal S1x512x1024 .f32) (g b : Vec Ideal S1x1x1024 .f32) (p : Fin 512) (j : Fin 1024) :
    k0_pay13 (F := Ideal) (k0_pay9 g) (k0_pay10 b) (k0_pay11 (k0_pay3 v0 v2 v5 v7) v22) (k0_pay12 (k0_pay3 v0 v2 v5 v7) v22) (FloatOps.ofBits (F := Ideal) .f32 0x3727C5AC#32) (ix2 p j)
      = Row.layerNorm C E (fun j => A * v22 (ix3 0 p j) + ((∑ k : Fin 768, v0 (ix3 0 p k) * v2 (ix3 0 k j)) + ∑ k : Fin 256, v5 (ix3 0 p k) * v7 (ix3 0 k j)))
          (fun k => g (ix3 0 0 k)) (fun k => b (ix3 0 0 k)) j := by
  pointwise [k0_pay13, k0_pay12, k0_pay11, k0_pay9, k0_pay10, k0_pay3, Row.layerNorm]

/-- The first half's stored rows from normalised rows and hidden activations. -/
theorem pay48_at (h : FVec Ideal S512x1024 .f32) (act : Vec Ideal S512x2816 .bf16) (wd : Vec Ideal S1x2816x1024 .bf16)
    (g b : Vec Ideal S1x1x1024 .f32) (p : Fin 512) (j : Fin 1024) :
    k0_pay48 (F := Ideal) (k0_pay44 g) (k0_pay45 b) (k0_pay46 h act wd) (k0_pay47 h act wd) (FloatOps.ofBits (F := Ideal) .f32 0x3727C5AC#32) (ix3 0 p j)
      = Row.layerNorm C E (Row.ffn A (fun k => h (ix2 p k)) (fun f => act (ix2 p f)) (fun f j => wd (ix3 0 f j)))
          (fun k => g (ix3 0 0 k)) (fun k => b (ix3 0 0 k)) j := by
  pointwise [k0_pay48, k0_pay47, k0_pay46, k0_pay45, k0_pay44, Row.layerNorm, Row.ffn]

/-- The second half's stored rows from normalised rows and hidden activations. -/
theorem pay49_at (h : FVec Ideal S512x1024 .f32) (act : Vec Ideal S512x2816 .bf16) (wd : Vec Ideal S1x2816x1024 .bf16)
    (g b : Vec Ideal S1x1x1024 .f32) (p : Fin 512) (j : Fin 1024) :
    k0_pay1 (F := Ideal) (k0_pay49 h (k0_pay43 act wd) g b) (ix3 0 p j)
      = Row.layerNorm C E (Row.ffn A (fun k => h (ix2 p k)) (fun f => act (ix2 p f)) (fun f j => wd (ix3 0 f j)))
          (fun k => g (ix3 0 0 k)) (fun k => b (ix3 0 0 k)) j := by
  pointwise [k0_pay1, k0_pay49, k0_pay43, Row.layerNorm, Row.ffn]

/-- Which block each window holds at each grid point. -/
theorem idx_val : ∀ t : Fin cfg0.N,
      win0_0.index t = ![t.val / 8, t.val % 8, 0] ∧ win0_1.index t = ![t.val / 8, t.val % 8, 0]
      ∧ win0_2.index t = ![t.val / 8, t.val % 8, 0] ∧ win0_3.index t = ![1, 0, 0] ∧ win0_4.index t = ![1, 0, 0]
      ∧ win0_5.index t = ![1, 0, 0] ∧ win0_6.index t = ![1, 0, 0] ∧ win0_7.index t = ![1, 0, 0] ∧ win0_8.index t = ![1, 0, 0]
      ∧ win0_9.index t = ![1, 0, 0] ∧ win0_10.index t = ![t.val / 8, t.val % 8, 0] :=
  (by decide +kernel : ∀ t : Fin grid0.N, _)

/-- The value of the result array at an index, as the row formula over the arguments. -/
def REF (X0 : FVec Ideal S4x8192x1024 .f32) (X1 : FVec Ideal S4x8192x768 .bf16) (X2 : FVec Ideal S4x8192x256 .bf16)
    (X3 : FVec Ideal S2x1024x1024 .f32) (X4 X5 : FVec Ideal S2x1024 .f32) (X6 : FVec Ideal S2x1024x5632 .f32)
    (X7 : FVec Ideal S2x2816x1024 .f32) (X8 X9 : FVec Ideal S2x1024 .f32) : FVec Ideal S4x8192x1024 .f32 := fun i =>
  Row.post A C E (fun k => X0 (ix3 (i 0) (i 1) k)) (fun k => X1 (ix3 (i 0) (i 1) k)) (fun k => X2 (ix3 (i 0) (i 1) k))
    (fun k j => X3 (ix3 1 k j)) (fun k => X4 (ix2 1 k)) (fun k => X5 (ix2 1 k)) (fun k j => X6 (ix3 1 k j))
    (fun f j => X7 (ix3 1 f j)) (fun k => X8 (ix2 1 k)) (fun k => X9 (ix2 1 k)) (i 2)

/-- A row stored by the first half is the row formula, when its operands are the formula's. -/
theorem half1 (v0 : Vec Ideal S1x512x768 .bf16) (v2 : Vec Ideal S1x768x1024 .bf16) (v5 : Vec Ideal S1x512x256 .bf16)
    (v7 : Vec Ideal S1x256x1024 .bf16) (v22 : Vec Ideal S1x512x1024 .f32) (vg1 vb1 : Vec Ideal S1x1x1024 .f32)
    (act : Vec Ideal S512x2816 .bf16) (vd : Vec Ideal S1x2816x1024 .bf16) (vg2 vb2 : Vec Ideal S1x1x1024 .f32) (p : Fin 512) (j : Fin 1024)
    (x : Fin 1024 → EReal) (mix : Fin 768 → EReal) (mem : Fin 256 → EReal) (wo : Fin 1024 → Fin 1024 → EReal) (g1 b1 : Fin 1024 → EReal)
    (wi : Fin 1024 → Fin 5632 → EReal) (wd : Fin 2816 → Fin 1024 → EReal) (g2 b2 : Fin 1024 → EReal) (j' : Fin 1024) (hj : j = j')
    (hact : ∀ f, act (ix2 p f) = Row.gated (fun k => (k0_pay5 (F := Ideal) (k0_pay2 v0 v2 v5 v7) (k0_pay4 v22) vg1 vb1) (ix2 p k)) wi f)
    (hx : ∀ k, v22 (ix3 0 p k) = x k) (hmix : ∀ k, v0 (ix3 0 p k) = mix k) (hmem : ∀ k, v5 (ix3 0 p k) = mem k)
    (hwo : ∀ (k : Fin 768) j, v2 (ix3 0 k j) = wo ⟨k.val, by omega⟩ j)
    (hwo' : ∀ (k : Fin 256) j, v7 (ix3 0 k j) = wo ⟨768 + k.val, by omega⟩ j)
    (hg1 : ∀ k, vg1 (ix3 0 0 k) = g1 k) (hb1 : ∀ k, vb1 (ix3 0 0 k) = b1 k)
    (hwd : ∀ f j, vd (ix3 0 f j) = wd f j) (hg2 : ∀ k, vg2 (ix3 0 0 k) = g2 k) (hb2 : ∀ k, vb2 (ix3 0 0 k) = b2 k) :
    k0_pay48 (F := Ideal) (k0_pay44 vg2) (k0_pay45 vb2) (k0_pay46 (k0_pay5 (F := Ideal) (k0_pay2 v0 v2 v5 v7) (k0_pay4 v22) vg1 vb1) act vd) (k0_pay47 (k0_pay5 (F := Ideal) (k0_pay2 v0 v2 v5 v7) (k0_pay4 v22) vg1 vb1) act vd) (FloatOps.ofBits (F := Ideal) .f32 0x3727C5AC#32) (ix3 0 p j)
      = Row.post A C E x mix mem wo g1 b1 wi wd g2 b2 j' := by
  subst hj
  have hy : ∀ k, (k0_pay5 (F := Ideal) (k0_pay2 v0 v2 v5 v7) (k0_pay4 v22) vg1 vb1) (ix2 p k)
      = Row.layerNorm C E (Row.mixed A x mix mem wo) g1 b1 k := fun k => by
    rw [pay5_at]
    refine Row.layerNorm_congr (fun k => ?_) hg1 hb1 k
    simp only [hx, hmix, hmem, hwo, hwo', Row.mixed]
  rw [pay48_at]
  refine Row.layerNorm_congr (fun k => ?_) hg2 hb2 j
  simp only [hact, hy, hwd]

/-- A row stored by the second half is the row formula, when its operands are the formula's. -/
theorem half2 (v0 : Vec Ideal S1x512x768 .bf16) (v2 : Vec Ideal S1x768x1024 .bf16) (v5 : Vec Ideal S1x512x256 .bf16)
    (v7 : Vec Ideal S1x256x1024 .bf16) (v22 : Vec Ideal S1x512x1024 .f32) (vg1 vb1 : Vec Ideal S1x1x1024 .f32)
    (act : Vec Ideal S512x2816 .bf16) (vd : Vec Ideal S1x2816x1024 .bf16) (vg2 vb2 : Vec Ideal S1x1x1024 .f32) (p : Fin 512) (j : Fin 1024)
    (x : Fin 1024 → EReal) (mix : Fin 768 → EReal) (mem : Fin 256 → EReal) (wo : Fin 1024 → Fin 1024 → EReal) (g1 b1 : Fin 1024 → EReal)
    (wi : Fin 1024 → Fin 5632 → EReal) (wd : Fin 2816 → Fin 1024 → EReal) (g2 b2 : Fin 1024 → EReal) (j' : Fin 1024) (hj : j = j')
    (hact : ∀ f, act (ix2 p f) = Row.gated (fun k => (k0_pay13 (F := Ideal) (k0_pay9 vg1) (k0_pay10 vb1) (k0_pay11 (k0_pay3 v0 v2 v5 v7) v22) (k0_pay12 (k0_pay3 v0 v2 v5 v7) v22) (FloatOps.ofBits (F := Ideal) .f32 0x3727C5AC#32)) (ix2 p k)) wi f)
    (hx : ∀ k, v22 (ix3 0 p k) = x k) (hmix : ∀ k, v0 (ix3 0 p k) = mix k) (hmem : ∀ k, v5 (ix3 0 p k) = mem k)
    (hwo : ∀ (k : Fin 768) j, v2 (ix3 0 k j) = wo ⟨k.val, by omega⟩ j)
    (hwo' : ∀ (k : Fin 256) j, v7 (ix3 0 k j) = wo ⟨768 + k.val, by omega⟩ j)
    (hg1 : ∀ k, vg1 (ix3 0 0 k) = g1 k) (hb1 : ∀ k, vb1 (ix3 0 0 k) = b1 k)
    (hwd : ∀ f j, vd (ix3 0 f j) = wd f j) (hg2 : ∀ k, vg2 (ix3 0 0 k) = g2 k) (hb2 : ∀ k, vb2 (ix3 0 0 k) = b2 k) :
    k0_pay1 (F := Ideal) (k0_pay49 (k0_pay13 (F := Ideal) (k0_pay9 vg1) (k0_pay10 vb1) (k0_pay11 (k0_pay3 v0 v2 v5 v7) v22) (k0_pay12 (k0_pay3 v0 v2 v5 v7) v22) (FloatOps.ofBits (F := Ideal) .f32 0x3727C5AC#32)) (k0_pay43 act vd) vg2 vb2) (ix3 0 p j)
      = Row.post A C E x mix mem wo g1 b1 wi wd g2 b2 j' := by
  subst hj
  have hy : ∀ k, (k0_pay13 (F := Ideal) (k0_pay9 vg1) (k0_pay10 vb1) (k0_pay11 (k0_pay3 v0 v2 v5 v7) v22) (k0_pay12 (k0_pay3 v0 v2 v5 v7) v22) (FloatOps.ofBits (F := Ideal) .f32 0x3727C5AC#32)) (ix2 p k)
      = Row.layerNorm C E (Row.mixed A x mix mem wo) g1 b1 k := fun k => by
    rw [pay13_at]
    refine Row.layerNorm_congr (fun k => ?_) hg1 hb1 k
    simp only [hx, hmix, hmem, hwo, hwo', Row.mixed]
  rw [pay49_at]
  refine Row.layerNorm_congr (fun k => ?_) hg2 hb2 j
  simp only [hact, hy, hwd]

/-- One stored block of hidden activations at an index, from what its operands are there. -/
theorem chunk_at (y : FVec Ideal S512x1024 .bf16) (wg wu : Vec Ideal S1x1024x256 .bf16) (z : S512x256.Idx)
    (Y : Fin 1024 → EReal) (wi : Fin 1024 → Fin 5632 → EReal) (f : Fin 2816)
    (hy : ∀ k, y (ix2 (z 0) k) = Y k) (hg : ∀ k, wg (ix3 0 k (z 1)) = wi k ⟨f.val, by omega⟩)
    (hu : ∀ k, wu (ix3 0 k (z 1)) = wi k ⟨2816 + f.val, by omega⟩) :
    k0_pay8 (F := Ideal) y wg wu z = Row.gated Y wi f := by
  idx_vars z
  have hg' : ∀ k, wg (ix3 0 k z1) = wi k ⟨f.val, by omega⟩ := hg
  have hu' : ∀ k, wu (ix3 0 k z1) = wi k ⟨2816 + f.val, by omega⟩ := hu
  have hy' : ∀ k, y (ix2 z0 k) = Y k := hy
  have e : k0_pay8 (F := Ideal) y wg wu (ix2 z0 z1)
      = (∑ k : Fin 1024, y (ix2 z0 k) * wg (ix3 0 k z1)) * Ideal.logistic (∑ k : Fin 1024, y (ix2 z0 k) * wg (ix3 0 k z1))
        * ∑ k : Fin 1024, y (ix2 z0 k) * wu (ix3 0 k z1) := by pointwise [k0_pay8]
  rw [e]
  simp only [hy', hg', hu', Row.gated]

/-- A tile of columns of the first feed-forward weight, read through its window. -/
theorem w6_at (c : Dev nD) (t : Fin cfg0.N) (o : ℕ) (inb : ∀ a, (![0, 0, o] : Fin 3 → ℕ) a + (![1, 1024, 256] : Fin 3 → ℕ) a ≤ S1x1024x5632.size a)
    (k : Fin 1024) (z : Fin 256) (n : Fin 5632) (hn : n.val = o + z.val) :
    View.ld (iblk m c 6 t) (Rect.unit (s := S1x1024x5632) ![0, 0, o] ![1, 1024, 256] inb) (ix3 0 k z)
      = m ((c : Thread nD τ).loc main_arg6) (ix3 1 k n) := by
  blk_point [iblk, V, idx_val t]

set_option maxHeartbeats 1000000 in
/-- The result array after the last grid point is the row formula over the arguments. -/
theorem final (c : Dev nD) : (dats m 0 c).arrAt 10 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  unfold Gen.outsAt0
  frame_out
  canon_tiles x h
  · idx_vars x
    obtain rfl : x0 = 0 := Subsingleton.elim _ _
    unfold REF
    refine half2 _ _ _ _ _ _ _ _ _ _ _ _ _ _ _ _ _ _ _ _ _ _ _ _ (Fin.ext ?_) ?_ ?_ ?_ ?_ ?_ ?_ ?_ ?_ ?_ ?_ ?_
    · blk_simp [idx_val t]
      omega
    · intro f
      refine (congrFun (View.readCov_eq_canon' _ _ _) _).trans ?_
      canon_tiles z hz
      all_goals
        have e0 : 512 + 1 * x1.val = _ := hz0
        have e1 : 0 + 1 * f.val = _ := hz1
        first
          | exact absurd e0 (by omega)
          | refine chunk_at _ _ _ _ _ _ _ ?_ ?_ ?_
            · intro k
              rw [show z 0 = x1 from Fin.ext (by omega)]
              rfl
            · exact fun k => w6_at m c t _ _ k _ _ (by show f.val = _; omega)
            · exact fun k => w6_at m c t _ _ k _ _ (by simp only []; omega)
    all_goals
      intros
      blk_point [iblk, V, idx_val t]
  · idx_vars x
    obtain rfl : x0 = 0 := Subsingleton.elim _ _
    unfold REF
    refine half1 _ _ _ _ _ _ _ _ _ _ _ _ _ _ _ _ _ _ _ _ _ _ _ _ (Fin.ext ?_) ?_ ?_ ?_ ?_ ?_ ?_ ?_ ?_ ?_ ?_ ?_
    · blk_simp [idx_val t]
      omega
    · intro f
      refine (congrFun (View.readCov_eq_canon' _ _ _) _).trans ?_
      canon_tiles z hz
      all_goals
        have e0 : 0 + 1 * x1.val = _ := hz0
        have e1 : 0 + 1 * f.val = _ := hz1
        first
          | exact absurd e0 (by omega)
          | refine chunk_at _ _ _ _ _ _ _ ?_ ?_ ?_
            · intro k
              rw [show z 0 = x1 from Fin.ext (by omega)]
              rfl
            · exact fun k => w6_at m c t _ _ k _ _ (by show f.val = _; omega)
            · exact fun k => w6_at m c t _ _ k _ _ (by simp only []; omega)
    all_goals
      intros
      blk_point [iblk, V, idx_val t]

end Cert.PostIdeal.RowValue

end
-- ==== Proof.PostRefValue.lean ====
/- The reference of the block after the mixer, read at one element: it is `Cert.Row.post` of the rows at that token. -/
module

public import proofs.«01_k».proof.Proof.RowSpec
public import proofs.«01_k».proof.Proof.Gen.PostRefIdeal.Read

@[expose] public section

set_option maxRecDepth 16384

noncomputable section

namespace Cert.PostRefIdeal.RowValue

open Cert.PostRefIdeal Cert.PostRefIdeal.Gen Cert.PostRefIdeal.Read Idealize.ShloMosaic Idealize.ShloMosaic.TcCoe

variable (x0 : (⟨S4x8192x1024, .f32⟩ : BufTy).Contents (Elt Ideal)) (x1 : (⟨S4x8192x768, .bf16⟩ : BufTy).Contents (Elt Ideal))
  (x2 : (⟨S4x8192x256, .bf16⟩ : BufTy).Contents (Elt Ideal)) (x3 : (⟨S2x1024x1024, .f32⟩ : BufTy).Contents (Elt Ideal))
  (x4 x5 : (⟨S2x1024, .f32⟩ : BufTy).Contents (Elt Ideal)) (x6 : (⟨S2x1024x5632, .f32⟩ : BufTy).Contents (Elt Ideal))
  (x7 : (⟨S2x2816x1024, .f32⟩ : BufTy).Contents (Elt Ideal)) (x8 x9 : (⟨S2x1024, .f32⟩ : BufTy).Contents (Elt Ideal))

/-- The first residual row. -/
theorem v7_at (b : Fin 4) (s : Fin 8192) (j : Fin 1024) : val_main_v7 (F := Ideal) x0 x1 x2 x3 (ix3 b s j)
    = Row.mixed (Ideal.ofBits .f32 0x3FB504F3#32) (fun k => x0 (ix3 b s k)) (fun k => x1 (ix3 b s k))
        (fun k => x2 (ix3 b s k)) (fun k j => x3 (ix3 1 k j)) j := by
  pointwise [val_main_v7, val_main_v6, val_main_v5, val_main_cst, val_main_v4, val_main_v3, val_main_v2, val_main_v1,
    val_main_v0, Row.mixed]

/-- The first layer norm. -/
theorem v35_at (b : Fin 4) (s : Fin 8192) (j : Fin 1024) : val_main_v35 (F := Ideal) x0 x1 x2 x3 x4 x5 (ix3 b s j)
    = Row.layerNorm (Ideal.ofBits .f32 0x44800000#32) (Ideal.ofBits .f32 0x3727C5AC#32)
        (fun k => val_main_v7 (F := Ideal) x0 x1 x2 x3 (ix3 b s k)) (fun k => x4 (ix2 1 k)) (fun k => x5 (ix2 1 k)) j := by
  pointwise [val_main_v35, val_main_v34, val_main_v33, val_main_v32, val_main_v31, val_main_v30, val_main_v29, val_main_v28,
    val_main_v27, val_main_v26, val_main_v25, val_main_cst_4, val_main_v24, val_main_v23, val_main_v22, val_main_v21,
    val_main_cst_3, val_main_v20, val_main_v19, val_main_cst_2, val_main_v18, val_main_v17, val_main_v16, val_main_v15,
    val_main_v14, val_main_cst_1, val_main_v13, val_main_v12, val_main_cst_0, val_main_v11, val_main_v10, val_main_v9,
    val_main_v8, Row.layerNorm]

/-- The gated activations. -/
theorem v44_at (b : Fin 4) (s : Fin 8192) (f : Fin 2816) : val_main_v44 (F := Ideal) x0 x1 x2 x3 x4 x5 x6 (ix3 b s f)
    = Row.gated (fun k => val_main_v35 (F := Ideal) x0 x1 x2 x3 x4 x5 (ix3 b s k)) (fun k j => x6 (ix3 1 k j)) f := by
  pointwise [val_main_v44, val_main_v43, val_main_call0_v5, val_main_call0_v4, val_main_call0_cst_0, val_main_call0_v3,
    val_main_call0_v2, val_main_call0_cst, val_main_call0_v1, val_main_call0_v0, val_main_v40, val_main_v39, val_main_v38,
    val_main_v37, val_main_v36, Row.gated, Ideal.logistic]

/-- The second residual row. -/
theorem v48_at (b : Fin 4) (s : Fin 8192) (j : Fin 1024) : val_main_v48 (F := Ideal) x0 x1 x2 x3 x4 x5 x6 x7 (ix3 b s j)
    = Row.ffn (Ideal.ofBits .f32 0x3FB504F3#32) (fun k => val_main_v35 (F := Ideal) x0 x1 x2 x3 x4 x5 (ix3 b s k))
       (fun f => val_main_v44 (F := Ideal) x0 x1 x2 x3 x4 x5 x6 (ix3 b s f)) (fun f j => x7 (ix3 1 f j)) j := by
  pointwise [val_main_v48, val_main_v47, val_main_v46, val_main_v45, val_main_v42, val_main_v41, val_main_cst_5, Row.ffn]

/-- The second layer norm. -/
theorem v76_at (b : Fin 4) (s : Fin 8192) (j : Fin 1024) :
    val_main_v76 (F := Ideal) x0 x1 x2 x3 x4 x5 x6 x7 x8 x9 (ix3 b s j)
    = Row.layerNorm (Ideal.ofBits .f32 0x44800000#32) (Ideal.ofBits .f32 0x3727C5AC#32)
        (fun k => val_main_v48 (F := Ideal) x0 x1 x2 x3 x4 x5 x6 x7 (ix3 b s k)) (fun k => x8 (ix2 1 k))
        (fun k => x9 (ix2 1 k)) j := by
  pointwise [val_main_v76, val_main_v75, val_main_v74, val_main_v73, val_main_v72, val_main_v71, val_main_v70, val_main_v69,
    val_main_v68, val_main_v67, val_main_v66, val_main_cst_10, val_main_v65, val_main_v64, val_main_v63, val_main_v62,
    val_main_cst_9, val_main_v61, val_main_v60, val_main_cst_8, val_main_v59, val_main_v58, val_main_v57, val_main_v56,
    val_main_v55, val_main_cst_7, val_main_v54, val_main_v53, val_main_cst_6, val_main_v52, val_main_v51, val_main_v50,
    val_main_v49, Row.layerNorm]

/-- The reference's result at token `s` of batch `b`, position `j`: `Row.post` of the rows at that token. -/
theorem result_at (b : Fin 4) (s : Fin 8192) (j : Fin 1024) :
    val_main_v76 (F := Ideal) x0 x1 x2 x3 x4 x5 x6 x7 x8 x9 (ix3 b s j)
    = Row.post (Ideal.ofBits .f32 0x3FB504F3#32) (Ideal.ofBits .f32 0x44800000#32) (Ideal.ofBits .f32 0x3727C5AC#32)
        (fun k => x0 (ix3 b s k)) (fun k => x1 (ix3 b s k)) (fun k => x2 (ix3 b s k)) (fun k j => x3 (ix3 1 k j))
        (fun k => x4 (ix2 1 k)) (fun k => x5 (ix2 1 k)) (fun k j => x6 (ix3 1 k j)) (fun f j => x7 (ix3 1 f j))
        (fun k => x8 (ix2 1 k)) (fun k => x9 (ix2 1 k)) j := by
  rw [v76_at]
  simp only [v48_at, v44_at, v35_at, v7_at]
  rfl

end Cert.PostRefIdeal.RowValue

end
-- ==== Proof.PostClaim.lean ====
/- The claim about the block after the mixer: kernel and reference compute the same array. -/
module

public import proofs.«01_k».proof.Defs
public import proofs.«01_k».proof.Proof.PostKernelValue
public import proofs.«01_k».proof.Proof.PostRefValue
public import proofs.«01_k».proof.Proof.Gen.PostRefIdeal.Run
public import Idealize.ShloMosaic.Lib.Claim

@[expose] public section

set_option maxRecDepth 16384

noncomputable section

namespace Cert.PostClaim

open Idealize.ShloMosaic Idealize.ShloMosaic.TcCoe

/-- The reference's result is the row formula of its arguments. -/
theorem reference (x0 : FVec Ideal PostRefIdeal.S4x8192x1024 .f32) (x1 : FVec Ideal PostRefIdeal.S4x8192x768 .bf16) (x2 : FVec Ideal PostRefIdeal.S4x8192x256 .bf16)
    (x3 : FVec Ideal PostRefIdeal.S2x1024x1024 .f32) (x4 x5 : FVec Ideal PostRefIdeal.S2x1024 .f32) (x6 : FVec Ideal PostRefIdeal.S2x1024x5632 .f32)
    (x7 : FVec Ideal PostRefIdeal.S2x2816x1024 .f32) (x8 x9 : FVec Ideal PostRefIdeal.S2x1024 .f32) :
    PostRefIdeal.Read.val_main_v76 (F := Ideal) x0 x1 x2 x3 x4 x5 x6 x7 x8 x9 = PostIdeal.RowValue.REF x0 x1 x2 x3 x4 x5 x6 x7 x8 x9 := by
  funext i
  rw [eq_ix3 i]
  exact PostRefIdeal.RowValue.result_at _ _ _ _ _ _ _ _ _ _ (i 0) (i 1) (i 2)

/-- The idealized kernel and the reference leave the same array from the same arguments. -/
theorem algebraic : Cert.algebraic_PostIdeal_PostRefIdeal := by
  pair_intro
  · run_from Cert.PostIdeal.Gen.run_main m g
  · run_from Cert.PostRefIdeal.Value.run m' g'
    obtain ⟨h0, h1, h2, h3, h4, h5, h6, h7, h8, h9⟩ := hagree c
    rw [PostIdeal.RowValue.final m c, ← h8, ← h9]
    refine (PostRefIdeal.Read.val_main_v76_eq (StableHlo.launchContents m' c)).trans ((reference _ _ _ _ _ _ _ _ _ _).trans ?_)
    rw [← h0, ← h1, ← h2, ← h3, ← h4, ← h5, ← h6, ← h7]

end Cert.PostClaim

end
-- ==== Proof.RowGmlp.lean ====
/- The gated mixer of one chunk of 128 rows as a formula over the extended reals. -/
module

public import proofs.«01_k».proof.Proof.RowSpec

@[expose] public section

noncomputable section

namespace Cert.Row

open Idealize.ShloMosaic

/-- The gelu in its tanh form. -/
def gelu (x : EReal) : EReal :=
  x * (Ideal.ofBits .f32 0x3F000000#32
    * (1 + Ideal.tanh (Ideal.ofBits .f32 0x3F4C422A#32 * (x + Ideal.ofBits .f32 0x3D372713#32 * (x * (x * x))))))

/-- One entry of the input projection of a row. -/
def proj {n : ℕ} (x : Fin 1024 → EReal) (w : Fin 1024 → Fin n → EReal) (j : Fin n) : EReal := ∑ k, x k * w k j

/-- The normalised value row: gelu of the second third of the projection, then a layer norm. -/
def value (c e : EReal) (x : Fin 1024 → EReal) (w : Fin 1024 → Fin 1792 → EReal) (g b : Fin 768 → EReal) : Fin 768 → EReal :=
  layerNorm c e (fun l => gelu (proj x w ⟨768 + l.val, by omega⟩)) g b

/-- Entry `(s, j)` of a chunk `X`: the gate times the causal mix `ws` of the chunk's values plus the bias `bs`. -/
def gate (c e : EReal) (X : Fin 128 → Fin 1024 → EReal) (w : Fin 1024 → Fin 1792 → EReal) (g b : Fin 768 → EReal)
    (ws : Fin 128 → EReal) (bs : EReal) (s : Fin 128) (j : Fin 768) : EReal :=
  gelu (proj (X s) w ⟨j.val, by omega⟩) * ((∑ t : Fin 128, (if t.val ≤ s.val then ws t else 0) * value c e (X t) w g b j) + bs)

end Cert.Row

end
-- ==== Proof.RowAttn.lean ====
/- Attention of one query row over a short memory, as a formula over the extended reals, and the facts that let a row
   computed on masked lanes meet it: mask tests, sums over masked lanes, and the normaliser that is never zero. -/
module

public import Idealize.ShloMosaic.Lib.Pointwise
public import Idealize.ShloMosaic.Lib.WordCmp

@[expose] public section

noncomputable section

namespace Cert.Row

open Idealize.ShloMosaic

/-- The scaled score of a query against memory slot `n`. -/
def score (c : EReal) (q : Fin 64 → EReal) (K : Fin 256 → Fin 64 → EReal) (n : Fin 256) : EReal :=
  (∑ d, q d * K n d) * c

/-- The exponential of a score less the largest score (`bot` seeds the maximum). -/
def weight (bot c : EReal) (q : Fin 64 → EReal) (K : Fin 256 → Fin 64 → EReal) (n : Fin 256) : EReal :=
  Ideal.exp (score c q K n - Finset.univ.fold max bot (score c q K))

/-- One head's output lane `d`: values weighted by the softmax of the scores. -/
def head (bot c : EReal) (q : Fin 64 → EReal) (K V : Fin 256 → Fin 64 → EReal) (d : Fin 64) : EReal :=
  ∑ n, V n d * Ideal.div (weight bot c q K n) (∑ l, weight bot c q K l)

/-- Every entry of an array is a real number. -/
def Real {ι : Type} (x : ι → EReal) : Prop := ∀ i, ∃ r : ℝ, x i = r

/-- A finite sum of reals, taken among the extended reals, is the sum of the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A dot product of rows of reals is real. -/
theorem dot_real {ι : Type} [Fintype ι] {x y : ι → EReal} (hx : ∀ i, ∃ r : ℝ, x i = r) (hy : ∀ i, ∃ r : ℝ, y i = r) :
    ∃ r : ℝ, ∑ i, x i * y i = r := by
  choose a ha using hx
  choose b hb using hy
  refine ⟨∑ i, a i * b i, ?_⟩
  rw [← coe_sum]
  exact Finset.sum_congr rfl fun i _ => by rw [ha, hb, EReal.coe_mul]

/-- An extended real whose absolute value is below infinity is real. -/
theorem real_of_abs_lt {x : EReal} (h : max x (-x) < ⊤) : ∃ r : ℝ, x = r := by
  induction x using EReal.rec with
  | bot => simp at h
  | top => simp at h
  | coe r => exact ⟨r, rfl⟩

/-- Scaling the query before the dot product scales the score, when everything is real. -/
theorem score_prescaled {c : EReal} {q : Fin 64 → EReal} {K : Fin 256 → Fin 64 → EReal} (hc : ∃ r : ℝ, c = r)
    (hq : ∀ d, ∃ r : ℝ, q d = r) (hK : ∀ n d, ∃ r : ℝ, K n d = r) (n : Fin 256) :
    ∑ d, q d * c * K n d = score c q K n := by
  obtain ⟨c, rfl⟩ := hc
  choose a ha using hq
  choose b hb using hK
  unfold score
  simp only [ha, hb, ← EReal.coe_mul, coe_sum, Finset.sum_mul]
  exact congrArg _ (Finset.sum_congr rfl fun d _ => by ring)

/-- A score of real rows is real. -/
theorem score_real {c : EReal} {q : Fin 64 → EReal} {K : Fin 256 → Fin 64 → EReal} (hc : ∃ r : ℝ, c = r)
    (hq : ∀ d, ∃ r : ℝ, q d = r) (hK : ∀ n d, ∃ r : ℝ, K n d = r) (n : Fin 256) : ∃ r : ℝ, score c q K n = r := by
  obtain ⟨c, rfl⟩ := hc
  obtain ⟨r, hr⟩ := dot_real hq (hK n)
  exact ⟨r * c, by rw [score, hr, EReal.coe_mul]⟩

/-- The exponential is never negative. -/
theorem exp_nonneg (x : EReal) : 0 ≤ Ideal.exp x := by
  induction x using EReal.rec with
  | bot => exact le_of_eq Ideal.exp_bot.symm
  | top => exact le_top
  | coe r => exact EReal.coe_nonneg.2 (Real.exp_pos r).le

/-- The exponential of anything above minus infinity is positive. -/
theorem exp_pos {x : EReal} (h : x ≠ ⊥) : 0 < Ideal.exp x := by
  induction x using EReal.rec with
  | bot => exact absurd rfl h
  | top => exact EReal.zero_lt_top
  | coe r => exact EReal.coe_pos.2 (Real.exp_pos r)

/-- The normaliser of real scores is not zero. -/
theorem normaliser_ne {bot c : EReal} {q : Fin 64 → EReal} {K : Fin 256 → Fin 64 → EReal} (hb : bot ≠ ⊤)
    (hc : ∃ r : ℝ, c = r) (hq : ∀ d, ∃ r : ℝ, q d = r) (hK : ∀ n d, ∃ r : ℝ, K n d = r) :
    ∑ l, weight bot c q K l ≠ 0 := by
  refine ne_of_gt (lt_of_lt_of_le (exp_pos (x := score c q K 0 - Finset.univ.fold max bot (score c q K)) ?_)
    (Finset.single_le_sum (f := weight bot c q K) (fun l _ => exp_nonneg _) (Finset.mem_univ 0)))
  have hM : Finset.univ.fold max bot (score c q K) < ⊤ :=
    (Finset.fold_max_lt ⊤).2 ⟨lt_top_iff_ne_top.2 hb, fun n _ => by
      obtain ⟨r, hr⟩ := score_real hc hq hK n
      rw [hr]; exact EReal.coe_lt_top r⟩
  obtain ⟨r, hr⟩ := score_real hc hq hK 0
  rw [hr]
  generalize Finset.univ.fold max bot (score c q K) = M at hM ⊢
  induction M using EReal.rec with
  | bot => simp
  | top => exact absurd hM (lt_irrefl _)
  | coe m => rw [← EReal.coe_sub]; exact EReal.coe_ne_bot _

/-- A head computed with the query scaled first and the weights multiplied by the reciprocal of their sum. -/
theorem head_of_reciprocal {bot c : EReal} {q : Fin 64 → EReal} {K : Fin 256 → Fin 64 → EReal} (hb : bot ≠ ⊤)
    (hc : ∃ r : ℝ, c = r) (hq : ∀ d, ∃ r : ℝ, q d = r) (hK : ∀ n d, ∃ r : ℝ, K n d = r)
    (V : Fin 256 → Fin 64 → EReal) (s : Fin 256 → EReal) (hs : ∀ n, s n = ∑ d, q d * c * K n d) (d : Fin 64) :
    ∑ n, Ideal.exp (s n - Finset.univ.fold max bot s) * Ideal.div 1 (∑ l, Ideal.exp (s l - Finset.univ.fold max bot s)) * V n d
      = head bot c q K V d := by
  obtain rfl : s = score c q K := funext fun n => (hs n).trans (score_prescaled hc hq hK n)
  have hl := normaliser_ne hb hc hq hK
  unfold head
  refine Finset.sum_congr rfl fun n _ => ?_
  have e : ∀ l, Ideal.exp (score c q K l - Finset.univ.fold max bot (score c q K)) = weight bot c q K l := fun _ => rfl
  simp only [e, Ideal.div, if_neg hl, one_mul]
  rw [mul_comm]

/-- A seed taken again in a maximum changes nothing. -/
theorem max_fold {ι : Type} (s : Finset ι) (bot : EReal) (f : ι → EReal) : max bot (s.fold max bot f) = s.fold max bot f :=
  max_eq_right ((Finset.le_fold_max bot).2 (Or.inl le_rfl))

/-- A mask that keeps the positions up to `b`. -/
theorem select_le {a b : ℕ} (ha : a < 2 ^ 31) (hb : b < 2 ^ 31) {α : Type} (x y : α) :
    Scalar.select (IntOp.cmpi .sle (BitVec.ofNat 32 a) (BitVec.ofNat 32 b)) x y = if a ≤ b then x else y := by
  simp only [hlo_ix, Scalar.select, *]

/-- A mask that keeps the positions from `lo` up to but not including `hi`. -/
theorem select_band {a : ℕ} (lo hi : ℕ) (ha : a < 2 ^ 31) (hl : lo < 2 ^ 31) (hh : hi < 2 ^ 31) {α : Type} (x y : α) :
    Scalar.select (IntOp.andi (IntOp.cmpi .sge (BitVec.ofNat 32 a) (BitVec.ofNat 32 lo))
      (IntOp.cmpi .slt (BitVec.ofNat 32 a) (BitVec.ofNat 32 hi))) x y = if lo ≤ a ∧ a < hi then x else y := by
  simp only [hlo_ix, Scalar.select, *]

/-- A sum over 128 lanes whose first factor is kept on the lower 64 only. -/
theorem sum_low (f g : Fin 128 → EReal) :
    ∑ l : Fin 128, (if 0 ≤ l.val ∧ l.val < 64 then f l else 0) * g l
      = ∑ d : Fin 64, f ⟨d.val, by omega⟩ * g ⟨d.val, by omega⟩ := by
  have e := Fin.sum_univ_add (a := 64) (b := 64) fun l : Fin (64 + 64) =>
    (if 0 ≤ l.val ∧ l.val < 64 then f l else 0) * g l
  refine e.trans ?_
  rw [show (∑ d : Fin 64, (if 0 ≤ (Fin.natAdd 64 d).val ∧ (Fin.natAdd 64 d).val < 64 then f (Fin.natAdd 64 d) else 0)
    * g (Fin.natAdd 64 d)) = 0 from Finset.sum_eq_zero fun d _ => by
      rw [if_neg (by simp only [Fin.val_natAdd]; omega), zero_mul], add_zero]
  refine Finset.sum_congr rfl fun d _ => ?_
  rw [if_pos ⟨Nat.zero_le _, by simp only [Fin.val_castAdd]; omega⟩]
  rfl

/-- A sum over 128 lanes whose first factor is kept on the upper 64 only. -/
theorem sum_high (f g : Fin 128 → EReal) :
    ∑ l : Fin 128, (if 64 ≤ l.val ∧ l.val < 128 then f l else 0) * g l
      = ∑ d : Fin 64, f ⟨64 + d.val, by omega⟩ * g ⟨64 + d.val, by omega⟩ := by
  have e := Fin.sum_univ_add (a := 64) (b := 64) fun l : Fin (64 + 64) =>
    (if 64 ≤ l.val ∧ l.val < 128 then f l else 0) * g l
  refine e.trans ?_
  rw [show (∑ d : Fin 64, (if 64 ≤ (Fin.castAdd 64 d).val ∧ (Fin.castAdd 64 d).val < 128 then f (Fin.castAdd 64 d) else 0)
    * g (Fin.castAdd 64 d)) = 0 from Finset.sum_eq_zero fun d _ => by
      rw [if_neg (by simp only [Fin.val_castAdd]; omega), zero_mul], zero_add]
  refine Finset.sum_congr rfl fun d _ => ?_
  rw [if_pos ⟨by simp only [Fin.val_natAdd]; omega, by simp only [Fin.val_natAdd]; omega⟩]
  rfl

end Cert.Row

end
-- ==== Proof.GmlpTile.lean ====
module

public import proofs.«01_k».proof.Proof.RowGmlp
public import proofs.«01_k».proof.Proof.RowAttn
public import proofs.«01_k».proof.Proof.Gen.GmlpIdeal.Value
public import Idealize.ShloMosaic.Lib.Pipeline.ValueKit

@[expose] public section

set_option maxRecDepth 16384

noncomputable section

namespace Cert.GmlpIdeal.RowValue

open Cert.GmlpIdeal Cert.GmlpIdeal.Gen Idealize.ShloMosaic Idealize.ShloMosaic.TcCoe

/-- The two masked heads of weights side by side. -/
def wcat (a b : Vec Ideal S1x128x128 .bf16) : FVec Ideal S128x256 .bf16 :=
  concatenate S128x256 1 [⟨S128x128, select k0_pay2 (shapeCast S128x128 a shapeCasts_S1x128x128_S128x128 : FVec Ideal S128x128 .bf16) (broadcast S128x128 (Scalar.ofBits .bf16 0x0000#16))⟩, ⟨S128x128, select k0_pay2 (shapeCast S128x128 b shapeCasts_S1x128x128_S128x128 : FVec Ideal S128x128 .bf16) (broadcast S128x128 (Scalar.ofBits .bf16 0x0000#16))⟩] concatenates_S128x128_S128x128_S128x256_d1

/-- A tile of values twice, each copy masked to one head's lanes. -/
def vcat (v : FVec Ideal S128x128 .bf16) : FVec Ideal S256x128 .bf16 :=
  concatenate S256x128 0 [⟨S128x128, select (broadcastTo S128x128 (shapeCast S1x128 k0_pay3 shapeCasts_S1x128_S1x128 : IVec S1x128 1) broadcasts_S1x128_S128x128) v (broadcast S128x128 (Scalar.ofBits .bf16 0x0000#16))⟩, ⟨S128x128, select (broadcastTo S128x128 (shapeCast S1x128 k0_pay4 shapeCasts_S1x128_S1x128 : IVec S1x128 1) broadcasts_S1x128_S128x128) v (broadcast S128x128 (Scalar.ofBits .bf16 0x0000#16))⟩] concatenates_S128x128_S128x128_S256x128_d0

/-- One stored tile. -/
def stripe (w : FVec Ideal S128x256 .bf16) (v : FVec Ideal S128x128 .bf16) (b u : FVec Ideal S128x128 .f32) : FVec Ideal S1x128x128 .bf16 :=
  shapeCast S1x128x128 (truncf .bf16 (mulf u (addf (matmul dot_S128x256_S256x128_S128x128_1_0_0_1_n_n none w (vcat v) (constant S128x128 .f32 0x00000000#32)) b)) bitsLt_bf16_f32) shapeCasts_S128x128_S1x128x128

/-- The two masked heads side by side at an index. -/
theorem wcat_at (a b : Vec Ideal S1x128x128 .bf16) (p : Fin 128) (k : Fin 256) : wcat a b (ix2 p k)
    = if h : k.val < 128 then (if k.val ≤ p.val then a (ix3 0 p ⟨k.val, h⟩) else 0)
      else (if k.val - 128 ≤ p.val then b (ix3 0 p ⟨k.val - 128, by omega⟩) else 0) := by
  have e : wcat a b (ix2 p k) = if h : k.val < 128 then
      Scalar.select (IntOp.cmpi .sle (BitVec.ofNat 32 k.val) (BitVec.ofNat 32 p.val)) (a (ix3 0 p ⟨k.val, h⟩)) 0
      else Scalar.select (IntOp.cmpi .sle (BitVec.ofNat 32 (k.val - 128)) (BitVec.ofNat 32 p.val)) (b (ix3 0 p ⟨k.val - 128, by omega⟩)) 0 := by
    pointwise [wcat, k0_pay2]
  rw [e]
  exact dite_congr rfl (fun _ => Row.select_le (by omega) (by omega) _ _) fun _ => Row.select_le (by omega) (by omega) _ _

/-- The doubled tile at an index. -/
theorem vcat_at (v : FVec Ideal S128x128 .bf16) (k : Fin 256) (q : Fin 128) : vcat v (ix2 k q)
    = if h : k.val < 128 then (if q.val < 64 then v (ix2 ⟨k.val, h⟩ q) else 0)
      else (if 64 ≤ q.val then v (ix2 ⟨k.val - 128, by omega⟩ q) else 0) := by
  have e : vcat v (ix2 k q) = if h : k.val < 128 then
      Scalar.select (IntOp.andi (IntOp.cmpi .sge (BitVec.ofNat 32 q.val) (BitVec.ofNat 32 0))
        (IntOp.cmpi .slt (BitVec.ofNat 32 q.val) (BitVec.ofNat 32 64))) (v (ix2 ⟨k.val, h⟩ q)) 0
      else Scalar.select (IntOp.andi (IntOp.cmpi .sge (BitVec.ofNat 32 q.val) (BitVec.ofNat 32 64))
        (IntOp.cmpi .slt (BitVec.ofNat 32 q.val) (BitVec.ofNat 32 128))) (v (ix2 ⟨k.val - 128, by omega⟩ q)) 0 := by
    pointwise [vcat, k0_pay3, k0_pay4]
  rw [e]
  refine dite_congr rfl (fun _ => (Row.select_band 0 64 (by omega) (by omega) (by omega) _ _).trans (if_congr ?_ rfl rfl))
    fun _ => (Row.select_band 64 128 (by omega) (by omega) (by omega) _ _).trans (if_congr ?_ rfl rfl) <;> omega

/-- A sum over two heads' slots where each position belongs to one of them. -/
theorem sum_halves (q : Fin 128) (p : Fin 128) (a b v : Fin 128 → EReal) :
    ∑ k : Fin 256, (if h : k.val < 128 then (if k.val ≤ p.val then a ⟨k.val, h⟩ else 0)
        else (if k.val - 128 ≤ p.val then b ⟨k.val - 128, by omega⟩ else 0))
      * (if h : k.val < 128 then (if q.val < 64 then v ⟨k.val, h⟩ else 0)
        else (if 64 ≤ q.val then v ⟨k.val - 128, by omega⟩ else 0))
      = ∑ t : Fin 128, (if t.val ≤ p.val then (if q.val < 64 then a t else b t) else 0) * v t := by
  refine (Fin.sum_univ_add (a := 128) (b := 128) fun k : Fin (128 + 128) => (if h : k.val < 128 then (if k.val ≤ p.val then a ⟨k.val, h⟩ else 0)
        else (if k.val - 128 ≤ p.val then b ⟨k.val - 128, by omega⟩ else 0))
      * (if h : k.val < 128 then (if q.val < 64 then v ⟨k.val, h⟩ else 0)
        else (if 64 ≤ q.val then v ⟨k.val - 128, by omega⟩ else 0))).trans ?_
  rw [← Finset.sum_add_distrib]
  refine Finset.sum_congr rfl fun t _ => ?_
  by_cases hq : q.val < 64
  · have hq' : ¬ 64 ≤ q.val := by omega
    simp [hq, hq']
  · have hq' : 64 ≤ q.val := by omega
    simp [hq, hq']

/-- One stored tile at an index. -/
theorem stripe_at (a b : Vec Ideal S1x128x128 .bf16) (v : FVec Ideal S128x128 .bf16) (bs u : FVec Ideal S128x128 .f32) (p q : Fin 128) :
    stripe (wcat a b) v bs u (ix3 0 p q) = u (ix2 p q) * ((∑ t : Fin 128, (if t.val ≤ p.val then
      (if q.val < 64 then a (ix3 0 p t) else b (ix3 0 p t)) else 0) * v (ix2 t q)) + bs (ix2 p q)) := by
  have e : stripe (wcat a b) v bs u (ix3 0 p q)
      = u (ix2 p q) * ((∑ k : Fin 256, wcat a b (ix2 p k) * vcat v (ix2 k q)) + bs (ix2 p q)) := by pointwise [stripe]
  rw [e]
  simp only [wcat_at, vcat_at]
  rw [sum_halves q p (fun t => a (ix3 0 p t)) (fun t => b (ix3 0 p t)) (fun t => v (ix2 t q))]

/-- The mean's divisor. -/
abbrev C : EReal := Ideal.ofBits .f32 0x44400000#32
/-- The variance's offset. -/
abbrev E : EReal := Ideal.ofBits .f32 0x3727C5AC#32

/-- The gate rows of the upper half of a block. -/
theorem pay23_at (x : Vec Ideal S1x512x1024 .f32) (w : Vec Ideal S1024x768 .bf16) (p : Fin 512) (j : Fin 768) :
    k0_pay23 (F := Ideal) (k0_pay15 x w) (k0_pay22 x w) (ix2 p j) = Row.gelu (∑ k, x (ix3 0 p k) * w (ix2 k j)) := by
  pointwise [k0_pay23, k0_pay15, k0_pay22, k0_pay14, Row.gelu]

/-- The gate rows of the lower half of a block. -/
theorem pay75_at (x : Vec Ideal S1x512x1024 .f32) (w : Vec Ideal S1024x768 .bf16) (p : Fin 512) (j : Fin 768) :
    k0_pay75 (F := Ideal) (k0_pay19 x w) (ix2 p j) = Row.gelu (∑ k, x (ix3 0 p k) * w (ix2 k j)) := by
  pointwise [k0_pay75, k0_pay19, k0_pay18, Row.gelu]

/-- The value rows of the upper half of a block. -/
theorem pay24_at (x : Vec Ideal S1x512x1024 .f32) (w : Vec Ideal S1024x768 .bf16) (g b : Vec Ideal S1x768 .f32) (p : Fin 512) (j : Fin 768) :
    k0_pay24 (F := Ideal) (k0_pay16 x w) g b (ix2 p j) = Row.layerNorm C E (fun l => Row.gelu (∑ k, x (ix3 0 p k) * w (ix2 k l)))
      (fun l => g (ix2 0 l)) (fun l => b (ix2 0 l)) j := by
  have e (z : FVec Ideal S512x768 .f32) : k0_pay24 (F := Ideal) z g b (ix2 p j) = Row.layerNorm C E (fun l => Row.gelu (z (ix2 p l)))
      (fun l => g (ix2 0 l)) (fun l => b (ix2 0 l)) j := by
    pointwise [k0_pay24, Row.gelu, Row.layerNorm, C, E]
  rw [e]
  refine Row.layerNorm_congr (fun l => congrArg _ ?_) (fun _ => rfl) (fun _ => rfl) j
  pointwise [k0_pay16, k0_pay14]

/-- The value rows of the lower half of a block. -/
theorem pay78_at (x : Vec Ideal S1x512x1024 .f32) (w : Vec Ideal S1024x768 .bf16) (g b : Vec Ideal S1x768 .f32) (p : Fin 512) (j : Fin 768) :
    k0_pay78 (F := Ideal) (k0_pay20 x w) (k0_pay76 (k0_pay20 x w)) k0_pay77 g b (ix2 p j)
      = Row.layerNorm C E (fun l => Row.gelu (∑ k, x (ix3 0 p k) * w (ix2 k l))) (fun l => g (ix2 0 l)) (fun l => b (ix2 0 l)) j := by
  have e (z : FVec Ideal S512x768 .f32) : k0_pay78 (F := Ideal) z (k0_pay76 z) k0_pay77 g b (ix2 p j) = Row.layerNorm C E (fun l => Row.gelu (z (ix2 p l)))
      (fun l => g (ix2 0 l)) (fun l => b (ix2 0 l)) j := by
    pointwise [k0_pay78, k0_pay76, k0_pay77, Row.gelu, Row.layerNorm, C, E]
  rw [e]
  refine Row.layerNorm_congr (fun l => congrArg _ ?_) (fun _ => rfl) (fun _ => rfl) j
  pointwise [k0_pay20, k0_pay18]

/-- A tile cut out of a half block, at an index. -/
theorem slice_at {φ : FTy} (v : FVec Ideal S512x768 φ) (r c : ℕ) (h : S512x768.Slices ![r, c] S128x128) (p q : Fin 128)
    (P : Fin 512) (J : Fin 768) (hP : P.val = r + p.val) (hJ : J.val = c + q.val) :
    extractStridedSlice S128x128 ![r, c] v h (ix2 p q) = v (ix2 P J) := by
  pointwise
  exact congrArg v (congrArg₂ ix2 (Fin.ext hP.symm) (Fin.ext hJ.symm))

section Tile

variable {x : Vec Ideal S1x512x1024 .f32} {w1 w2 : Vec Ideal S1024x768 .bf16} {g b : Vec Ideal S1x768 .f32}
  {a0 a1 : Vec Ideal S1x128x128 .bf16} {bs : FVec Ideal S128x128 .f32} {r c : ℕ}
  {X : Fin 128 → Fin 1024 → EReal} {w : Fin 1024 → Fin 1792 → EReal} {g' b' : Fin 768 → EReal} {ws : Fin 128 → EReal} {bs' : EReal}

/-- A stored tile is the gated mixer of its chunk, from what its operands are at an index. -/
theorem tile (v : FVec Ideal S512x768 .bf16) (u : FVec Ideal S512x768 .f32)
    (hv : ∀ p j, v (ix2 p j) = Row.layerNorm C E (fun l => Row.gelu (∑ k, x (ix3 0 p k) * w2 (ix2 k l))) (fun l => g (ix2 0 l)) (fun l => b (ix2 0 l)) j)
    (hu : ∀ p j, u (ix2 p j) = Row.gelu (∑ k, x (ix3 0 p k) * w1 (ix2 k j)))
    (h : S512x768.Slices ![r, c] S128x128) (p p' q : Fin 128) (j : Fin 768)
    (hp : p' = p) (hj : j.val = c + q.val)
    (hx : ∀ (P : Fin 512) k (t : Fin 128), P.val = r + t.val → x (ix3 0 P k) = X t k)
    (hw1 : ∀ k l, w1 (ix2 k l) = w k ⟨l.val, by omega⟩) (hw2 : ∀ k l, w2 (ix2 k l) = w k ⟨768 + l.val, by omega⟩)
    (hg : ∀ l, g (ix2 0 l) = g' l) (hb : ∀ l, b (ix2 0 l) = b' l)
    (hs : ∀ t, (if q.val < 64 then a0 (ix3 0 p t) else a1 (ix3 0 p t)) = ws t) (hbs : bs (ix2 p q) = bs') :
    stripe (wcat a0 a1) (extractStridedSlice S128x128 ![r, c] v h) bs (extractStridedSlice S128x128 ![r, c] u h) (ix3 0 p q)
      = Row.gate C E X w g' b' ws bs' p' j := by
  subst hp
  have hr := h.2 0
  have hc := h.2 1
  rw [stripe_at, slice_at u _ _ h _ _ ⟨r + p'.val, by simp at hr; omega⟩ j rfl hj, hu, hbs]
  unfold Row.gate
  refine congrArg₂ _ (congrArg _ (Finset.sum_congr rfl fun k _ => ?_)) (congrArg (· + bs') (Finset.sum_congr rfl fun t _ => congrArg₂ _ (by rw [hs]) ?_))
  · rw [hx _ _ p' rfl, hw1]
  · rw [slice_at v _ _ h _ _ ⟨r + t.val, by simp at hr; omega⟩ j rfl hj, hv]
    refine Row.layerNorm_congr (fun l => congrArg _ (Finset.sum_congr rfl fun k _ => ?_)) hg hb j
    rw [hx _ _ t rfl, hw2]

end Tile

/-- Which block each window holds at each grid point. -/
theorem idx_val : ∀ t : Fin cfg0.N,
      win0_0.index t = ![t.val / 8, t.val % 8, 0] ∧ win0_1.index t = ![0, 0] ∧ win0_2.index t = ![0, 0]
      ∧ win0_3.index t = ![0, 0] ∧ win0_4.index t = ![0, 0, 0] ∧ win0_5.index t = ![0, 0]
      ∧ win0_6.index t = ![t.val / 8, 0, 0] ∧ win0_7.index t = ![t.val / 8, t.val % 8, 0]
      ∧ win0_8.index t = ![t.val / 8, t.val % 8, 0] :=
  (by decide +kernel : ∀ t : Fin grid0.N, _)

variable (m : (ℓ : Loc nD τ sig) → Buf (Elt Ideal) ℓ)

/-- The mixer's result as a function of the arguments: at token `s` of batch `b`, the gated mix of the chunk of 128
    tokens that holds `s`. -/
def REF7 (X0 : S4x8192x1024.Idx → EReal) (X1 : S1x1024x1792.Idx → EReal) (X2 X3 : S1x768.Idx → EReal)
    (X4 : S1x12x128x128.Idx → EReal) (X5 : S1x12x128.Idx → EReal) : S4x8192x768.Idx → EReal := fun i =>
  have h1 : (i 1).val < 8192 := (i 1).isLt
  have h2 : (i 2).val < 768 := (i 2).isLt
  Row.gate C E (fun t k => X0 (ix3 (i 0) ⟨128 * ((i 1).val / 128) + t.val, by omega⟩ k)) (fun k j => X1 (ix3 0 k j))
    (fun l => X2 (ix2 0 l)) (fun l => X3 (ix2 0 l))
    (fun t => X4 (ix4 0 ⟨(i 2).val / 64, by omega⟩ ⟨(i 1).val % 128, by omega⟩ t))
    (X5 (ix3 0 ⟨(i 2).val / 64, by omega⟩ ⟨(i 1).val % 128, by omega⟩)) ⟨(i 1).val % 128, by omega⟩ (i 2)

/-- A coordinate inside a unit rectangle. -/
theorem unit_idx {s : Shape} (off sz : Fin s.rank → ℕ) (inb : ∀ a, off a + sz a ≤ s.size a)
    (j : (Rect.unit (s := s) off sz inb).shape.Idx) (a : Fin s.rank) :
    ((Rect.unit (s := s) off sz inb).idx j a).val = off a + (j a).val := congrArg (off a + ·) (Nat.one_mul _)

/-- The upper half of the block of input rows. -/
theorem x_up (c : Dev nD) (t : Fin cfg0.N) (P : Fin 512) (k : Fin 1024) (B : Fin 4) (S : Fin 8192) (hB : B.val = t.val / 8)
    (hS : S.val = 1024 * (t.val % 8) + P.val) :
    View.ld (iblk m c 0 t) r0_12 (ix3 0 P k) = m ((c : Thread nD τ).loc main_arg0) (ix3 B S k) := by
  blk_point [iblk, V, idx_val t]

/-- The lower half of the block of input rows. -/
theorem x_low (c : Dev nD) (t : Fin cfg0.N) (P : Fin 512) (k : Fin 1024) (B : Fin 4) (S : Fin 8192) (hB : B.val = t.val / 8)
    (hS : S.val = 1024 * (t.val % 8) + (512 + P.val)) :
    View.ld (iblk m c 0 t) r0_16 (ix3 0 P k) = m ((c : Thread nD τ).loc main_arg0) (ix3 B S k) := by
  blk_point [iblk, V, idx_val t]

/-- The projection weight after the cast. -/
theorem host1 (c : Dev nD) (i : S1024x1792.Idx) :
    (V m c main_v5 : S1024x1792.Idx → EReal) i = m ((c : Thread nD τ).loc main_arg1) (ix3 0 (i 0) (i 1)) := by
  entry_read
  rw [eq_ix2 i]
  pointwise

/-- The layer norm's scale after its reshapes. -/
theorem host2 (c : Dev nD) (i : S1x768.Idx) :
    (V m c main_v7 : S1x768.Idx → EReal) i = m ((c : Thread nD τ).loc main_arg2) i := by
  entry_read
  rw [eq_ix2 i]
  pointwise

/-- The layer norm's shift after its reshapes. -/
theorem host3 (c : Dev nD) (i : S1x768.Idx) :
    (V m c main_v9 : S1x768.Idx → EReal) i = m ((c : Thread nD τ).loc main_arg3) i := by
  entry_read
  rw [eq_ix2 i]
  pointwise

/-- The mixing weights after the cast. -/
theorem host4 (c : Dev nD) (i : S12x128x128.Idx) :
    (V m c main_v11 : S12x128x128.Idx → EReal) i = m ((c : Thread nD τ).loc main_arg4) (ix4 0 (i 0) (i 1) (i 2)) := by
  entry_read
  rw [eq_ix3 i]
  pointwise

/-- The biases laid out by row and lane. -/
theorem host5 (c : Dev nD) (i : S128x768.Idx) : (V m c main_v3 : S128x768.Idx → EReal) i
    = m ((c : Thread nD τ).loc main_arg5) (ix3 0 ⟨(i 1).val / 64, by have h : (i 1).val < 768 := (i 1).isLt; omega⟩ (i 0)) := by
  entry_read
  rw [eq_ix2 i]
  pointwise

/-- The gate's columns of the projection weight. -/
theorem w1_at (c : Dev nD) (t : Fin cfg0.N) (k : Fin 1024) (l : Fin 768) :
    View.ld (iblk m c 1 t) r0_13 (ix2 k l) = m ((c : Thread nD τ).loc main_arg1) (ix3 0 k ⟨l.val, by omega⟩) := by
  refine (host1 m c _).trans ?_
  blk_ext [idx_val t]
  all_goals simp [unit_idx] <;> omega

/-- The value's columns of the projection weight. -/
theorem w2_at (c : Dev nD) (t : Fin cfg0.N) (k : Fin 1024) (l : Fin 768) :
    View.ld (iblk m c 1 t) r0_14 (ix2 k l) = m ((c : Thread nD τ).loc main_arg1) (ix3 0 k ⟨768 + l.val, by omega⟩) := by
  refine (host1 m c _).trans ?_
  blk_ext [idx_val t]
  all_goals simp [unit_idx] <;> omega

/-- The scale of the layer norm. -/
theorem g_at (c : Dev nD) (t : Fin cfg0.N) (l : Fin 768) :
    View.ld (iblk m c 2 t) r0_17 (ix2 0 l) = m ((c : Thread nD τ).loc main_arg2) (ix2 0 l) := by
  refine (host2 m c _).trans ?_
  blk_ext [idx_val t]
  all_goals simp [unit_idx] <;> omega

/-- The shift of the layer norm. -/
theorem b_at (c : Dev nD) (t : Fin cfg0.N) (l : Fin 768) :
    View.ld (iblk m c 3 t) r0_17 (ix2 0 l) = m ((c : Thread nD τ).loc main_arg3) (ix2 0 l) := by
  refine (host3 m c _).trans ?_
  blk_ext [idx_val t]
  all_goals simp [unit_idx] <;> omega

/-- One head's mixing weights. -/
theorem a_at (c : Dev nD) (t : Fin cfg0.N) (n : ℕ) (inb : ∀ a, (![n, 0, 0] : Fin 3 → ℕ) a + S1x128x128.size a ≤ S12x128x128.size a)
    (H : Fin 12) (hH : H.val = n) (p p' k : Fin 128) (hp : p' = p) :
    View.ld (iblk m c 4 t) (Rect.unit (s := S12x128x128) ![n, 0, 0] S1x128x128.size inb) (ix3 0 p k)
      = m ((c : Thread nD τ).loc main_arg4) (ix4 0 H p' k) := by
  subst hp
  refine (host4 m c _).trans ?_
  blk_ext [idx_val t]
  all_goals simp [unit_idx] <;> omega

/-- A tile of the biases, one per head and row. -/
theorem bias_at (c : Dev nD) (t : Fin cfg0.N) (o : ℕ) (inb : ∀ a, (![0, o] : Fin 2 → ℕ) a + S128x128.size a ≤ S128x768.size a)
    (h : S128x128.ShapeCasts S128x128) (H : Fin 12) (p p' q : Fin 128) (hH : H.val = (o + q.val) / 64) (hp : p' = p) :
    (shapeCast S128x128 (View.ld (iblk m c 5 t) (Rect.unit (s := S128x768) ![0, o] S128x128.size inb) : FVec Ideal S128x128 .f32) h : FVec Ideal S128x128 .f32) (ix2 p q)
      = m ((c : Thread nD τ).loc main_arg5) (ix3 0 H p') := by
  subst hp
  have e (v : FVec Ideal S128x128 .f32) : (shapeCast S128x128 v h : FVec Ideal S128x128 .f32) (ix2 p' q) = v (ix2 p' q) := by pointwise
  refine (e _).trans ((host5 m c _).trans ?_)
  blk_ext [idx_val t]
  all_goals simp [unit_idx] <;> omega

end Cert.GmlpIdeal.RowValue

end
-- ==== Proof.GmlpMix.lean ====
/- The mixer's first result array after the last grid point: every stored tile is the gated mix of its chunk. -/
module

public import proofs.«01_k».proof.Proof.GmlpTile

@[expose] public section

set_option maxRecDepth 16384

noncomputable section

namespace Cert.GmlpIdeal.RowValue

open Cert.GmlpIdeal Cert.GmlpIdeal.Gen Idealize.ShloMosaic Idealize.ShloMosaic.TcCoe

variable (m : (ℓ : Loc nD τ sig) → Buf (Elt Ideal) ℓ)

set_option maxHeartbeats 8000000 in
/-- One block of the first result at an index, with the index of the array that it lands on. -/
theorem block7 (c : Dev nD) (t : Fin cfg0.N) (y : S1x1024x768.Idx) (i : S4x8192x768.Idx) (hi0 : (i 0).val = t.val / 8)
    (hi1 : (i 1).val = 1024 * (t.val % 8) + (y 1).val) (hi2 : (i 2).val = (y 2).val) :
    out0_7 (iblk m c 0 t) (iblk m c 1 t) (iblk m c 2 t) (iblk m c 3 t) (iblk m c 4 t) (iblk m c 5 t) (iblk m c 6 t) y
      = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have b1 : (i 1).val < 8192 := (i 1).isLt
  have b2 : (i 2).val < 768 := (i 2).isLt
  unfold_out out0_7
  canon_tiles x h
  iterate 24
    focus
      idx_vars x
      obtain rfl : x0 = 0 := Subsingleton.elim _ _
      unfold REF7
      refine tile _ _ (pay78_at _ _ _ _) (pay75_at _ _) _ _ _ _ _ (Fin.ext ?_) ?_ (fun P k t' hP => x_low m c t P k _ _ ?_ ?_)
        (fun k l => w1_at m c t k l) (fun k l => w2_at m c t k l) (fun l => g_at m c t l) (fun l => b_at m c t l) ?_
        (bias_at m c t _ _ _ _ _ _ _ ?_ (Fin.ext ?_))
      · show (i 1).val % 128 = _
        omega
      · omega
      · omega
      · show 128 * ((i 1).val / 128) + t'.val = _
        omega
      · intro t'
        split
        · exact a_at m c t _ _ _ (by show (i 2).val / 64 = _; omega) _ _ _ (Fin.ext (by show (i 1).val % 128 = _; omega))
        · exact a_at m c t _ _ _ (by show (i 2).val / 64 = _; omega) _ _ _ (Fin.ext (by show (i 1).val % 128 = _; omega))
      · show (i 2).val / 64 = _
        omega
      · show (i 1).val % 128 = _
        omega
  iterate 24
    focus
      idx_vars x
      obtain rfl : x0 = 0 := Subsingleton.elim _ _
      unfold REF7
      refine tile _ _ (pay24_at _ _ _ _) (pay23_at _ _) _ _ _ _ _ (Fin.ext ?_) ?_ (fun P k t' hP => x_up m c t P k _ _ ?_ ?_)
        (fun k l => w1_at m c t k l) (fun k l => w2_at m c t k l) (fun l => g_at m c t l) (fun l => b_at m c t l) ?_
        (bias_at m c t _ _ _ _ _ _ _ ?_ (Fin.ext ?_))
      · show (i 1).val % 128 = _
        omega
      · omega
      · omega
      · show 128 * ((i 1).val / 128) + t'.val = _
        omega
      · intro t'
        split
        · exact a_at m c t _ _ _ (by show (i 2).val / 64 = _; omega) _ _ _ (Fin.ext (by show (i 1).val % 128 = _; omega))
        · exact a_at m c t _ _ _ (by show (i 2).val / 64 = _; omega) _ _ _ (Fin.ext (by show (i 1).val % 128 = _; omega))
      · show (i 2).val / 64 = _
        omega
      · show (i 1).val % 128 = _
        omega

set_option maxHeartbeats 2000000 in
/-- The first result array is the gated mixer of the arguments. -/
theorem final7 (c : Dev nD) : (dats m 0 c).arrAt 7 cfg0.N = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  rw [after0_7]
  exact block7 m c t y _ (by blk_simp [idx_val t]) (by blk_simp [idx_val t]; omega) (by blk_simp [idx_val t])

end Cert.GmlpIdeal.RowValue

end
-- ==== Proof.GmlpAttn.lean ====
/- The memory attention of one half block of 512 rows, as the kernel writes it: each head on masked lanes, and the four
   heads' outputs added up. At an index it is one head's softmax attention of the projected row. -/
module

public import proofs.«01_k».proof.Proof.RowAttn
public import proofs.«01_k».proof.Proof.Gen.GmlpIdeal.Value
public import Idealize.ShloMosaic.Lib.Pipeline.ValueKit

@[expose] public section

set_option maxRecDepth 16384

noncomputable section

namespace Cert.GmlpIdeal.Attn

open Cert.GmlpIdeal Cert.GmlpIdeal.Gen Idealize.ShloMosaic Idealize.ShloMosaic.TcCoe

/-- The maximum's seed: minus infinity. -/
abbrev BOT : EReal := Ideal.ofBits .f32 0xFF800000#32
/-- The scale of a score: an eighth. -/
abbrev SC : EReal := Ideal.ofBits .f32 0x3E000000#32

/-- The lanes `lo` up to `hi` of a tile of queries, every other lane zero. -/
def headQ (q : FVec Ideal S512x256 .bf16) (o : ℕ) (h : S512x256.Slices ![0, o] S512x128) (lo hi : BitVec 32) : FVec Ideal S512x128 .bf16 :=
  select (broadcastTo S512x128 (shapeCast S1x128 (andi (cmpi .sge (iota .tc S1x128 32 [1] iota_S1x128_d1_w32) (broadcast S1x128 lo))
    (cmpi .slt (iota .tc S1x128 32 [1] iota_S1x128_d1_w32) (broadcast S1x128 hi))) shapeCasts_S1x128_S1x128) broadcasts_S1x128_S512x128)
    (extractStridedSlice S512x128 ![0, o] q h) (broadcast S512x128 (Scalar.ofBits .bf16 0x0000#16))

/-- The scores of masked queries against a tile of keys. -/
def headS (z : FVec Ideal S512x128 .bf16) (k : FVec Ideal S256x128 .bf16) : FVec Ideal S512x256 .f32 :=
  matmul dot_S512x128_S256x128_S512x256_1_1_0_0_n_n none z k (constant S512x256 .f32 0x00000000#32)

/-- The exponentials of scores less their row's maximum. -/
def expS (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- Exponentials times the reciprocal of their row's sum. -/
def softS (e : FVec Ideal S512x256 .f32) : FVec Ideal S512x256 .bf16 :=
  truncf .bf16 (mulf e (broadcastTo S512x256 (divf (broadcast S512x1 (Scalar.ofBits .f32 0x3F800000#32))
    (shapeCast S512x1 (multiReduction .add [1] S512 e 0x00000000#32 reduces_S512x256_S512 (.inl rfl) rfl) shapeCasts_S512_S512x1)) broadcasts_S512x1_S512x256)) bitsLt_bf16_f32

/-- The weighted values of one head, on that head's lanes of the output. -/
def headO (w : FVec Ideal S512x256 .bf16) (v : FVec Ideal S256x256 .bf16) (lo hi : BitVec 32) : FVec Ideal S512x256 .f32 :=
  matmul dot_S512x256_S256x256_S512x256_1_0_0_1_n_n none w
    (select (broadcastTo S256x256 (shapeCast S1x256 (andi (cmpi .sge (iota .tc S1x256 32 [1] iota_S1x256_d1_w32) (broadcast S1x256 lo))
      (cmpi .slt (iota .tc S1x256 32 [1] iota_S1x256_d1_w32) (broadcast S1x256 hi))) shapeCasts_S1x256_S1x256) broadcasts_S1x256_S256x256)
      v (broadcast S256x256 (Scalar.ofBits .bf16 0x0000#16))) (constant S512x256 .f32 0x00000000#32)

/-- The attention of all four heads. -/
def attn (q : FVec Ideal S512x256 .bf16) (k0 k1 : FVec Ideal S256x128 .bf16) (v : FVec Ideal S256x256 .bf16) : FVec Ideal S1x512x256 .bf16 :=
  shapeCast S1x512x256 (truncf .bf16 (addf (addf (addf
    (headO (softS (expS (headS (headQ q 0 slices_S512x256_o0_0_S512x128 0#32 64#32) k0))) v 0#32 64#32)
    (headO (softS (expS (headS (headQ q 0 slices_S512x256_o0_0_S512x128 64#32 128#32) k0))) v 64#32 128#32))
    (headO (softS (expS (headS (headQ q 128 slices_S512x256_o0_128_S512x128 0#32 64#32) k1))) v 128#32 192#32))
    (headO (softS (expS (headS (headQ q 128 slices_S512x256_o0_128_S512x128 64#32 128#32) k1))) v 192#32 256#32)) bitsLt_bf16_f32) shapeCasts_S512x256_S1x512x256

/-- A masked query lane. -/
theorem headQ_at (q : FVec Ideal S512x256 .bf16) (o : ℕ) (h : S512x256.Slices ![0, o] S512x128) (lo hi : ℕ) (hl : lo < 2 ^ 31) (hh : hi < 2 ^ 31)
    (ho : o ≤ 128) (p : Fin 512) (d : Fin 128) :
    headQ q o h (BitVec.ofNat 32 lo) (BitVec.ofNat 32 hi) (ix2 p d) = if lo ≤ d.val ∧ d.val < hi then q (ix2 p ⟨o + d.val, by omega⟩) else 0 := by
  have e : headQ q o h (BitVec.ofNat 32 lo) (BitVec.ofNat 32 hi) (ix2 p d)
      = Scalar.select (IntOp.andi (IntOp.cmpi .sge (BitVec.ofNat 32 d.val) (BitVec.ofNat 32 lo))
        (IntOp.cmpi .slt (BitVec.ofNat 32 d.val) (BitVec.ofNat 32 hi))) (q (ix2 p ⟨o + d.val, by omega⟩)) 0 := by
    pointwise [headQ]
  rw [e, Row.select_band lo hi (by omega) hl hh]

/-- A score is a sum over lanes. -/
theorem headS_at (z : FVec Ideal S512x128 .bf16) (k : FVec Ideal S256x128 .bf16) (p : Fin 512) (n : Fin 256) :
    headS z k (ix2 p n) = ∑ d : Fin 128, z (ix2 p d) * k (ix2 n d) := by
  pointwise [headS]

/-- A normalised weight. -/
theorem soft_at (s : FVec Ideal S512x256 .f32) (p : Fin 512) (n : Fin 256) :
    softS (expS s) (ix2 p n) = Ideal.exp (s (ix2 p n) - Finset.univ.fold max BOT fun l => s (ix2 p l))
      * Ideal.div 1 (∑ l, Ideal.exp (s (ix2 p l) - Finset.univ.fold max BOT fun l => s (ix2 p l))) := by
  pointwise [softS, expS, BOT]

/-- One head's output, zero off its lanes. -/
theorem headO_at (w : FVec Ideal S512x256 .bf16) (v : FVec Ideal S256x256 .bf16) (lo hi : ℕ) (hl : lo < 2 ^ 31) (hh : hi < 2 ^ 31) (p : Fin 512) (j : Fin 256) :
    headO w v (BitVec.ofNat 32 lo) (BitVec.ofNat 32 hi) (ix2 p j) = if lo ≤ j.val ∧ j.val < hi then ∑ n, w (ix2 p n) * v (ix2 n j) else 0 := by
  have e : headO w v (BitVec.ofNat 32 lo) (BitVec.ofNat 32 hi) (ix2 p j)
      = ∑ n, Scalar.select (IntOp.andi (IntOp.cmpi .sge (BitVec.ofNat 32 j.val) (BitVec.ofNat 32 lo))
        (IntOp.cmpi .slt (BitVec.ofNat 32 j.val) (BitVec.ofNat 32 hi))) (w (ix2 p n) * v (ix2 n j)) 0 := by
    pointwise [headO]
  rw [e, Finset.sum_congr rfl fun n _ => Row.select_band lo hi (by omega) hl hh _ _]
  split
  · rfl
  · exact Finset.sum_const_zero

/-- The four heads' outputs added up. -/
theorem attn_sum (q : FVec Ideal S512x256 .bf16) (k0 k1 : FVec Ideal S256x128 .bf16) (v : FVec Ideal S256x256 .bf16) (p : Fin 512) (j : Fin 256) :
    attn q k0 k1 v (ix3 0 p j)
      = headO (softS (expS (headS (headQ q 0 slices_S512x256_o0_0_S512x128 0#32 64#32) k0))) v 0#32 64#32 (ix2 p j)
      + headO (softS (expS (headS (headQ q 0 slices_S512x256_o0_0_S512x128 64#32 128#32) k0))) v 64#32 128#32 (ix2 p j)
      + headO (softS (expS (headS (headQ q 128 slices_S512x256_o0_128_S512x128 0#32 64#32) k1))) v 128#32 192#32 (ix2 p j)
      + headO (softS (expS (headS (headQ q 128 slices_S512x256_o0_128_S512x128 64#32 128#32) k1))) v 192#32 256#32 (ix2 p j) := by
  pointwise [attn]

section Head

variable {q : FVec Ideal S512x256 .bf16} {k : FVec Ideal S256x128 .bf16} {v : FVec Ideal S256x256 .bf16} {p : Fin 512}
  {Q : Fin 256 → EReal} {K V : Fin 256 → Fin 256 → EReal}

/-- A head on the lower lanes of its tile. -/
theorem low_head (o : ℕ) (h : S512x256.Slices ![0, o] S512x128) (ho : o ≤ 128) (H : Fin 4) (hH : 64 * H.val = o)
    (hq : ∀ l, q (ix2 p l) = Q l * SC) (hk : ∀ (n : Fin 256) (d : Fin 128), k (ix2 n d) = K n ⟨o + d.val, by omega⟩)
    (hQ : ∀ l, ∃ r : ℝ, Q l = r) (hK : ∀ n l, ∃ r : ℝ, K n l = r) (hb : BOT ≠ ⊤) (hc : ∃ r : ℝ, SC = r)
    (j : Fin 256) (d : Fin 64) (hj : j.val = 64 * H.val + d.val) (hv : ∀ n, v (ix2 n j) = V n j) :
    ∑ n, softS (expS (headS (headQ q o h 0#32 64#32) k)) (ix2 p n) * v (ix2 n j)
      = Row.head BOT SC (fun d => Q ⟨64 * H.val + d.val, by omega⟩) (fun n d => K n ⟨64 * H.val + d.val, by omega⟩) (fun n d => V n ⟨64 * H.val + d.val, by omega⟩) d := by
  refine (Finset.sum_congr rfl fun n _ => ?_).trans (Row.head_of_reciprocal hb hc (fun _ => hQ _) (fun _ _ => hK _ _) _
    (fun n => headS (headQ q o h 0#32 64#32) k (ix2 p n)) (fun n => ?_) d)
  · rw [soft_at, hv]
    exact congrArg _ (congrArg (V n) (Fin.ext hj))
  · rw [headS_at]
    refine (Finset.sum_congr rfl fun d _ => congrArg (· * _) (headQ_at q o h 0 64 (by omega) (by omega) ho p d)).trans ?_
    rw [Row.sum_low (fun l => q (ix2 p ⟨o + l.val, by omega⟩)) (fun l => k (ix2 n l))]
    refine Finset.sum_congr rfl fun d _ => ?_
    rw [hq, hk]
    exact congrArg₂ (fun a b => Q a * SC * K n b) (Fin.ext (by simp; omega)) (Fin.ext (by simp; omega))

/-- A head on the upper lanes of its tile. -/
theorem high_head (o : ℕ) (h : S512x256.Slices ![0, o] S512x128) (ho : o ≤ 128) (H : Fin 4) (hH : 64 * H.val = o + 64)
    (hq : ∀ l, q (ix2 p l) = Q l * SC) (hk : ∀ (n : Fin 256) (d : Fin 128), k (ix2 n d) = K n ⟨o + d.val, by omega⟩)
    (hQ : ∀ l, ∃ r : ℝ, Q l = r) (hK : ∀ n l, ∃ r : ℝ, K n l = r) (hb : BOT ≠ ⊤) (hc : ∃ r : ℝ, SC = r)
    (j : Fin 256) (d : Fin 64) (hj : j.val = 64 * H.val + d.val) (hv : ∀ n, v (ix2 n j) = V n j) :
    ∑ n, softS (expS (headS (headQ q o h 64#32 128#32) k)) (ix2 p n) * v (ix2 n j)
      = Row.head BOT SC (fun d => Q ⟨64 * H.val + d.val, by omega⟩) (fun n d => K n ⟨64 * H.val + d.val, by omega⟩) (fun n d => V n ⟨64 * H.val + d.val, by omega⟩) d := by
  refine (Finset.sum_congr rfl fun n _ => ?_).trans (Row.head_of_reciprocal hb hc (fun _ => hQ _) (fun _ _ => hK _ _) _
    (fun n => headS (headQ q o h 64#32 128#32) k (ix2 p n)) (fun n => ?_) d)
  · rw [soft_at, hv]
    exact congrArg _ (congrArg (V n) (Fin.ext hj))
  · rw [headS_at]
    refine (Finset.sum_congr rfl fun d _ => congrArg (· * _) (headQ_at q o h 64 128 (by omega) (by omega) ho p d)).trans ?_
    rw [Row.sum_high (fun l => q (ix2 p ⟨o + l.val, by omega⟩)) (fun l => k (ix2 n l))]
    refine Finset.sum_congr rfl fun d _ => ?_
    rw [hq, hk]
    exact congrArg₂ (fun a b => Q a * SC * K n b) (Fin.ext (by simp; omega)) (Fin.ext (by simp; omega))

end Head

/-- The maximum's seed is below plus infinity. -/
theorem bot_ne : BOT ≠ ⊤ := by
  have e : BOT = ⊥ := by simp [BOT, Ideal.ofBits, Ideal.ieee]
  rw [e]
  exact bot_ne_top

/-- The scale is real. -/
theorem sc_real : ∃ r : ℝ, SC = r := by
  have e : SC = ((1 / 8 : ℝ) : EReal) := by
    simp [SC, Ideal.ofBits, Ideal.ieee, -EReal.coe_mul]
    norm_num
  exact ⟨_, e⟩

/-- The attention of one row: each output lane belongs to one head. -/
theorem attn_at {q : FVec Ideal S512x256 .bf16} {k0 k1 : FVec Ideal S256x128 .bf16} {v : FVec Ideal S256x256 .bf16} {p : Fin 512}
    {Q : Fin 256 → EReal} {K V : Fin 256 → Fin 256 → EReal}
    (hq : ∀ l, q (ix2 p l) = Q l * SC) (hk0 : ∀ (n : Fin 256) (d : Fin 128), k0 (ix2 n d) = K n ⟨0 + d.val, by omega⟩)
    (hk1 : ∀ (n : Fin 256) (d : Fin 128), k1 (ix2 n d) = K n ⟨128 + d.val, by omega⟩) (hv : ∀ n j, v (ix2 n j) = V n j)
    (hQ : ∀ l, ∃ r : ℝ, Q l = r) (hK : ∀ n l, ∃ r : ℝ, K n l = r) (j : Fin 256) (H : Fin 4) (d : Fin 64) (hj : j.val = 64 * H.val + d.val) :
    attn q k0 k1 v (ix3 0 p j) = Row.head BOT SC (fun d => Q ⟨64 * H.val + d.val, by omega⟩) (fun n d => K n ⟨64 * H.val + d.val, by omega⟩)
      (fun n d => V n ⟨64 * H.val + d.val, by omega⟩) d := by
  rw [attn_sum, headO_at _ _ 0 64 (by omega) (by omega), headO_at _ _ 64 128 (by omega) (by omega), headO_at _ _ 128 192 (by omega) (by omega),
    headO_at _ _ 192 256 (by omega) (by omega)]
  obtain hH | hH | hH | hH : H.val = 0 ∨ H.val = 1 ∨ H.val = 2 ∨ H.val = 3 := by omega
  · rw [if_pos (by omega), if_neg (by omega), if_neg (by omega), if_neg (by omega)]
    simp only [add_zero, zero_add]
    exact low_head 0 _ (by omega) H (by omega) hq hk0 hQ hK bot_ne sc_real j d hj fun n => hv n j
  · rw [if_neg (by omega), if_pos (by omega), if_neg (by omega), if_neg (by omega)]
    simp only [add_zero, zero_add]
    exact high_head 0 _ (by omega) H (by omega) hq hk0 hQ hK bot_ne sc_real j d hj fun n => hv n j
  · rw [if_neg (by omega), if_neg (by omega), if_pos (by omega), if_neg (by omega)]
    simp only [add_zero, zero_add]
    exact low_head 128 _ (by omega) H (by omega) hq hk1 hQ hK bot_ne sc_real j d hj fun n => hv n j
  · rw [if_neg (by omega), if_neg (by omega), if_neg (by omega), if_pos (by omega), zero_add, add_zero, zero_add]
    exact high_head 128 _ (by omega) H (by omega) hq hk1 hQ hK bot_ne sc_real j d hj fun n => hv n j

end Cert.GmlpIdeal.Attn

end
-- ==== Proof.GmlpMem.lean ====
/- The mixer's second result array: the memory attention of the projected rows. -/
module

public import proofs.«01_k».proof.Proof.GmlpTile
public import proofs.«01_k».proof.Proof.GmlpAttn

@[expose] public section

set_option maxRecDepth 16384

noncomputable section

namespace Cert.GmlpIdeal.RowValue

open Cert.GmlpIdeal Cert.GmlpIdeal.Gen Idealize.ShloMosaic Idealize.ShloMosaic.TcCoe Attn

variable (m : (ℓ : Loc nD τ sig) → Buf (Elt Ideal) ℓ)

/-- The memory attention as a function of the arguments: at a token and a lane, the lane's head attends over the memory. -/
def REF8 (X0 : S4x8192x1024.Idx → EReal) (X1 : S1x1024x1792.Idx → EReal) (X6 : S4x256x512.Idx → EReal) : S4x8192x256.Idx → EReal := fun i =>
  have h2 : (i 2).val < 256 := (i 2).isLt
  Row.head BOT SC (fun d => ∑ k, X0 (ix3 (i 0) (i 1) k) * X1 (ix3 0 k ⟨1536 + (64 * ((i 2).val / 64) + d.val), by omega⟩))
    (fun n d => X6 (ix3 (i 0) n ⟨64 * ((i 2).val / 64) + d.val, by omega⟩))
    (fun n d => X6 (ix3 (i 0) n ⟨256 + (64 * ((i 2).val / 64) + d.val), by omega⟩)) ⟨(i 2).val % 64, by omega⟩

/-- The memory query's columns of the projection weight. -/
theorem w3_at (c : Dev nD) (t : Fin cfg0.N) (k : Fin 1024) (l : Fin 256) :
    View.ld (iblk m c 1 t) r0_15 (ix2 k l) = m ((c : Thread nD τ).loc main_arg1) (ix3 0 k ⟨1536 + l.val, by omega⟩) := by
  refine (host1 m c _).trans ?_
  blk_ext [idx_val t]
  all_goals simp [unit_idx] <;> omega

/-- The memory's keys and values at a slot and a column. -/
theorem kv_at (c : Dev nD) (t : Fin cfg0.N) (B : Fin 4) (hB : B.val = t.val / 8) (h : S1x256x512.ShapeCasts S256x512) (n : Fin 256) (l : Fin 512) :
    (shapeCast S256x512 (View.ld (iblk m c 6 t) r0_48 : FVec Ideal S1x256x512 .bf16) h : FVec Ideal S256x512 .bf16) (ix2 n l)
      = m ((c : Thread nD τ).loc main_arg6) (ix3 B n l) := by
  have e (v : FVec Ideal S1x256x512 .bf16) : (shapeCast S256x512 v h : FVec Ideal S256x512 .bf16) (ix2 n l) = v (ix3 0 n l) := by pointwise
  refine (e _).trans ?_
  blk_point [iblk, V, idx_val t]

/-- A tile cut out of the memory's columns, at an index. -/
theorem cols_at {w : ℕ} (v : Vec Ideal S256x512 .bf16) (o : ℕ) (inb : ∀ a, (![0, o] : Fin 2 → ℕ) a + (⟨2, ![256, w]⟩ : Shape).size a ≤ S256x512.size a)
    (n : Fin 256) (l : Fin w) (h : o + l.val < 512) :
    View.ld v (Rect.unit (s := S256x512) ![0, o] (⟨2, ![256, w]⟩ : Shape).size inb) (ix2 n l) = v (ix2 n ⟨o + l.val, h⟩) := by
  refine congrArg v (funext fun a => Fin.ext ((unit_idx _ _ inb _ a).trans ?_))
  fin_cases a <;> simp

/-- The scaled queries of a half block. -/
theorem query_at (x : Vec Ideal S1x512x1024 .f32) (w : Vec Ideal S1024x256 .bf16) (p : Fin 512) (l : Fin 256) :
    k0_pay64 (F := Ideal) (k0_pay17 x w) (ix2 p l) = (∑ k, x (ix3 0 p k) * w (ix2 k l)) * SC := by
  pointwise [k0_pay64, k0_pay17, k0_pay14, SC]

/-- The scaled queries of the other half block. -/
theorem query_at' (x : Vec Ideal S1x512x1024 .f32) (w : Vec Ideal S1024x256 .bf16) (p : Fin 512) (l : Fin 256) :
    k0_pay132 (F := Ideal) (k0_pay21 x w) (ix2 p l) = (∑ k, x (ix3 0 p k) * w (ix2 k l)) * SC := by
  pointwise [k0_pay132, k0_pay21, k0_pay18, SC]

/-- The attention of one row of a half block is the formula at the index it lands on. -/
theorem attn_row {X0 : S4x8192x1024.Idx → EReal} {X1 : S1x1024x1792.Idx → EReal} {X6 : S4x256x512.Idx → EReal}
    (hx : Row.Real X0) (hw : Row.Real X1) (hk : Row.Real X6) (i : S4x8192x256.Idx) (p : Fin 512) (j : Fin 256) (hj : (i 2).val = j.val)
    (x : Vec Ideal S1x512x1024 .f32) (w : Vec Ideal S1024x256 .bf16) (kv : Vec Ideal S256x512 .bf16) (q : FVec Ideal S512x256 .bf16)
    (hq : ∀ l, q (ix2 p l) = (∑ k, x (ix3 0 p k) * w (ix2 k l)) * SC) (hX : ∀ k, x (ix3 0 p k) = X0 (ix3 (i 0) (i 1) k))
    (hW : ∀ (k : Fin 1024) (l : Fin 256), w (ix2 k l) = X1 (ix3 0 k ⟨1536 + l.val, by omega⟩))
    (hkv : ∀ (n : Fin 256) (l : Fin 512), kv (ix2 n l) = X6 (ix3 (i 0) n l)) :
    attn q (View.ld kv r0_50) (View.ld kv r0_51) (View.ld kv r0_49) (ix3 0 p j) = REF8 X0 X1 X6 i := by
  have h2 : (i 2).val < 256 := (i 2).isLt
  unfold REF8
  refine attn_at (Q := fun l => ∑ k, X0 (ix3 (i 0) (i 1) k) * X1 (ix3 0 k ⟨1536 + l.val, by omega⟩))
    (K := fun n l => X6 (ix3 (i 0) n ⟨l.val, by omega⟩)) (V := fun n l => X6 (ix3 (i 0) n ⟨256 + l.val, by omega⟩))
    (fun l => (hq l).trans (congrArg (· * SC) (Finset.sum_congr rfl fun k _ => by rw [hX, hW])))
    (fun n d => (cols_at _ 0 _ n d (by omega)).trans (hkv n _))
    (fun n d => (cols_at _ 128 _ n d (by omega)).trans (hkv n _))
    (fun n d => (cols_at _ 256 _ n d (by omega)).trans (hkv n _))
    (fun l => Row.dot_real (fun _ => hx _) fun _ => hw _) (fun _ _ => hk _) j ⟨(i 2).val / 64, by omega⟩ ⟨(i 2).val % 64, by omega⟩ ?_
  show j.val = 64 * ((i 2).val / 64) + (i 2).val % 64
  omega

set_option maxHeartbeats 2000000 in
/-- One block of the second result at an index, with the index of the array that it lands on. -/
theorem block8 (c : Dev nD) (hx : Row.Real (ι := S4x8192x1024.Idx) (m ((c : Thread nD τ).loc main_arg0)))
    (hw : Row.Real (ι := S1x1024x1792.Idx) (m ((c : Thread nD τ).loc main_arg1))) (hk : Row.Real (ι := S4x256x512.Idx) (m ((c : Thread nD τ).loc main_arg6)))
    (t : Fin cfg0.N) (y : S1x1024x256.Idx) (i : S4x8192x256.Idx) (hi0 : (i 0).val = t.val / 8)
    (hi1 : (i 1).val = 1024 * (t.val % 8) + (y 1).val) (hi2 : (i 2).val = (y 2).val) :
    out0_8 (iblk m c 0 t) (iblk m c 1 t) (iblk m c 2 t) (iblk m c 3 t) (iblk m c 4 t) (iblk m c 5 t) (iblk m c 6 t) y
      = REF8 (m ((c : Thread nD τ).loc main_arg0)) (m ((c : Thread nD τ).loc main_arg1)) (m ((c : Thread nD τ).loc main_arg6)) i := by
  unfold_out out0_8
  canon_tiles x h
  · idx_vars x
    obtain rfl : x0 = 0 := Subsingleton.elim _ _
    refine attn_row hx hw hk i x1 x2 (by omega) (View.ld (iblk m c 0 t) r0_16) (View.ld (iblk m c 1 t) r0_15) _ _
      (fun l => query_at' _ _ x1 l) ?_ ?_ ?_
    · exact fun k => x_low m c t x1 k _ _ hi0 (by omega)
    · exact fun k l => w3_at m c t k l
    · exact fun n l => kv_at m c t (i 0) hi0 _ n l
  · idx_vars x
    obtain rfl : x0 = 0 := Subsingleton.elim _ _
    refine attn_row hx hw hk i x1 x2 (by omega) (View.ld (iblk m c 0 t) r0_12) (View.ld (iblk m c 1 t) r0_15) _ _
      (fun l => query_at _ _ x1 l) ?_ ?_ ?_
    · exact fun k => x_up m c t x1 k _ _ hi0 (by omega)
    · exact fun k l => w3_at m c t k l
    · exact fun n l => kv_at m c t (i 0) hi0 _ n l

set_option maxHeartbeats 2000000 in
/-- The second result array is the memory attention of the arguments, when these are real. -/
theorem final8 (c : Dev nD) (hx : Row.Real (ι := S4x8192x1024.Idx) (m ((c : Thread nD τ).loc main_arg0)))
    (hw : Row.Real (ι := S1x1024x1792.Idx) (m ((c : Thread nD τ).loc main_arg1))) (hk : Row.Real (ι := S4x256x512.Idx) (m ((c : Thread nD τ).loc main_arg6))) :
    (dats m 0 c).arrAt 8 cfg0.N = REF8 (m ((c : Thread nD τ).loc main_arg0)) (m ((c : Thread nD τ).loc main_arg1)) (m ((c : Thread nD τ).loc main_arg6)) := by
  refine (dats m 0 c).arrAt_eq_of_covers 8 _ (by decide +kernel) fun t _ y => ?_
  rw [after0_8]
  exact block8 m c hx hw hk t y _ (by blk_simp [idx_val t]) (by blk_simp [idx_val t]; omega) (by blk_simp [idx_val t])

end Cert.GmlpIdeal.RowValue

end
-- ==== Proof.GmlpRefValue.lean ====
/- The reference of the mixer, read at one element of each result. -/
module

public import proofs.«01_k».proof.Proof.RowGmlp
public import proofs.«01_k».proof.Proof.RowAttn
public import proofs.«01_k».proof.Proof.Gen.GmlpRefIdeal.Read

@[expose] public section

set_option maxRecDepth 16384

noncomputable section

namespace Cert.GmlpRefIdeal.RowValue

open Cert.GmlpRefIdeal Cert.GmlpRefIdeal.Gen Cert.GmlpRefIdeal.Read Idealize.ShloMosaic Idealize.ShloMosaic.TcCoe

/-- The layer norm's divisor. -/
abbrev C : EReal := Ideal.ofBits .f32 0x44400000#32
/-- The variance's offset. -/
abbrev E : EReal := Ideal.ofBits .f32 0x3727C5AC#32
/-- The maximum's seed: minus infinity. -/
abbrev BOT : EReal := Ideal.ofBits .f32 0xFF800000#32
/-- The scale of a score: an eighth. -/
abbrev SC : EReal := Ideal.ofBits .f32 0x3E000000#32

/-- The gelu with its cube multiplied from the left. -/
def cubed (x : EReal) : EReal :=
  x * (Ideal.ofBits .f32 0x3F000000#32
    * (1 + Ideal.tanh (Ideal.ofBits .f32 0x3F4C422A#32 * (x + Ideal.ofBits .f32 0x3D372713#32 * (x * x * x)))))

/-- Either cube gives the same gelu. -/
theorem cubed_eq (x : EReal) : cubed x = Row.gelu x := by
  unfold cubed Row.gelu
  rw [mul_assoc x x x]

variable (x0 : (⟨S4x8192x1024, .f32⟩ : BufTy).Contents (Elt Ideal)) (x1 : (⟨S1x1024x1792, .f32⟩ : BufTy).Contents (Elt Ideal))
  (x2 x3 : (⟨S1x768, .f32⟩ : BufTy).Contents (Elt Ideal)) (x4 : (⟨S1x12x128x128, .f32⟩ : BufTy).Contents (Elt Ideal))
  (x5 : (⟨S1x12x128, .f32⟩ : BufTy).Contents (Elt Ideal)) (x6 : (⟨S4x256x512, .bf16⟩ : BufTy).Contents (Elt Ideal))

/-- The gate's pre-activation. -/
theorem v2_at (b : Fin 4) (s : Fin 8192) (j : Fin 768) : val_main_v2 (F := Ideal) x0 x1 (ix3 b s j)
    = Row.proj (fun k => x0 (ix3 b s k)) (fun k (j : Fin 1792) => x1 (ix3 0 k j)) ⟨j.val, by omega⟩ := by
  pointwise [val_main_v2, val_main_v1, val_main_v0, Row.proj]

/-- The value's pre-activation. -/
theorem v3_at (b : Fin 4) (s : Fin 8192) (j : Fin 768) : val_main_v3 (F := Ideal) x0 x1 (ix3 b s j)
    = Row.proj (fun k => x0 (ix3 b s k)) (fun k (j : Fin 1792) => x1 (ix3 0 k j)) ⟨768 + j.val, by omega⟩ := by
  pointwise [val_main_v3, val_main_v1, val_main_v0, Row.proj]

/-- The memory query. -/
theorem v4_at (b : Fin 4) (s : Fin 8192) (j : Fin 256) : val_main_v4 (F := Ideal) x0 x1 (ix3 b s j)
    = ∑ k, x0 (ix3 b s k) * x1 (ix3 0 k ⟨1536 + j.val, by omega⟩) := by
  pointwise [val_main_v4, val_main_v1, val_main_v0]

/-- The gate. -/
theorem v17_at (b : Fin 4) (s : Fin 8192) (j : Fin 768) : val_main_v17 (F := Ideal) x0 x1 (ix3 b s j)
    = Row.gelu (val_main_v2 (F := Ideal) x0 x1 (ix3 b s j)) := by
  rw [← cubed_eq]
  pointwise [val_main_v17, val_main_v16, val_main_v15, val_main_cst_2, val_main_v14, val_main_v13, val_main_cst_1, val_main_v12,
    val_main_v11, val_main_v10, val_main_cst_0, val_main_v9, val_main_v8, val_main_v7, val_main_cst, val_main_v6, val_main_v5, cubed]

/-- The value before its layer norm. -/
theorem v30_at (b : Fin 4) (s : Fin 8192) (j : Fin 768) : val_main_v30 (F := Ideal) x0 x1 (ix3 b s j)
    = Row.gelu (val_main_v3 (F := Ideal) x0 x1 (ix3 b s j)) := by
  rw [← cubed_eq]
  pointwise [val_main_v30, val_main_v29, val_main_v28, val_main_cst_6, val_main_v27, val_main_v26, val_main_cst_5, val_main_v25,
    val_main_v24, val_main_v23, val_main_cst_4, val_main_v22, val_main_v21, val_main_v20, val_main_cst_3, val_main_v19, val_main_v18, cubed]

/-- The value's layer norm. -/
theorem v56_at (b : Fin 4) (s : Fin 8192) (j : Fin 768) : val_main_v56 (F := Ideal) x0 x1 x2 x3 (ix3 b s j)
    = Row.layerNorm C E (fun l => val_main_v30 (F := Ideal) x0 x1 (ix3 b s l)) (fun l => x2 (ix2 0 l)) (fun l => x3 (ix2 0 l)) j := by
  pointwise [val_main_v56, val_main_v55, val_main_v54, val_main_v53, val_main_v52, val_main_v51, val_main_v50, val_main_v49,
    val_main_v48, val_main_v47, val_main_v46, val_main_cst_11, val_main_v45, val_main_v44, val_main_v43, val_main_v42,
    val_main_cst_10, val_main_v41, val_main_v40, val_main_cst_9, val_main_v39, val_main_v38, val_main_v37, val_main_v36,
    val_main_v35, val_main_cst_8, val_main_v34, val_main_v33, val_main_cst_7, val_main_v32, val_main_v31, Row.layerNorm, C, E]

/-- The value row of a token. -/
theorem value_at (b : Fin 4) (s : Fin 8192) (j : Fin 768) : val_main_v56 (F := Ideal) x0 x1 x2 x3 (ix3 b s j)
    = Row.value C E (fun k => x0 (ix3 b s k)) (fun k (j : Fin 1792) => x1 (ix3 0 k j)) (fun l => x2 (ix2 0 l)) (fun l => x3 (ix2 0 l)) j := by
  rw [v56_at]
  simp only [v30_at, v3_at]
  rfl

/-- The values cut into chunks of 128 tokens and heads of 64 lanes. -/
theorem v57_at (b : Fin 4) (n : Fin 64) (t : Fin 128) (h : Fin 12) (d : Fin 64) : val_main_v57 (F := Ideal) x0 x1 x2 x3 (ix5 b n t h d)
    = val_main_v56 (F := Ideal) x0 x1 x2 x3 (ix3 b ⟨128 * n.val + t.val, by omega⟩ ⟨64 * h.val + d.val, by omega⟩) := by
  rw [val_main_v57_apply]
  refine congrArg _ (funext fun a => Fin.ext ?_)
  match a with
  | ⟨0, _⟩ => show ((((b.val * 64 + n.val) * 128 + t.val) * 12 + h.val) * 64 + d.val) / 6291456 = b.val; omega
  | ⟨1, _⟩ => show ((((b.val * 64 + n.val) * 128 + t.val) * 12 + h.val) * 64 + d.val) / 768 % 8192 = 128 * n.val + t.val; omega
  | ⟨2, _⟩ => show ((((b.val * 64 + n.val) * 128 + t.val) * 12 + h.val) * 64 + d.val) % 768 = 64 * h.val + d.val; omega

/-- The causal mask keeps the positions up to the row. -/
theorem select_ge {a b : ℕ} (ha : a < 2 ^ 31) (hb : b < 2 ^ 31) {α : Type} (x y : α) :
    Scalar.select (IntOp.cmpi .sge (BitVec.ofNat 32 a) (BitVec.ofNat 32 b)) x y = if b ≤ a then x else y := by
  simp only [hlo_ix, Scalar.select, *]

/-- The causal mix. -/
theorem v63_at (h : Fin 12) (s t : Fin 128) : val_main_v63 (F := Ideal) x4 (ix3 h s t)
    = x4 (ix4 0 h s t) * (if t.val ≤ s.val then 1 else 0) := by
  have e : val_main_v63 (F := Ideal) x4 (ix3 h s t)
      = Scalar.select (IntOp.cmpi .sge (IntOp.addi (BitVec.ofNat 32 s.val) 0#32) (BitVec.ofNat 32 t.val)) (x4 (ix4 0 h s t)) 0 := by
    pointwise [val_main_v63, val_main_v62, val_main_v61, val_main_v60, val_main_call0_v5, val_main_call0_cst, val_main_call0_v4,
      val_main_call0_v3, val_main_call0_v2, val_main_call0_v1, val_main_call0_c, val_main_call0_v0, val_main_v59, val_main_cst_12, val_main_v58]
  rw [e, show IntOp.addi (BitVec.ofNat 32 s.val) 0#32 = BitVec.ofNat 32 s.val from BitVec.add_zero _, select_ge (by omega) (by omega)]
  split
  · rw [mul_one]
  · rw [mul_zero]

/-- The mixed values and their bias. -/
theorem v70_at (b : Fin 4) (n : Fin 64) (s : Fin 128) (h : Fin 12) (d : Fin 64) :
    val_main_v70 (F := Ideal) x0 x1 x2 x3 x4 x5 (ix5 b n s h d)
    = (∑ t : Fin 128, val_main_v57 (F := Ideal) x0 x1 x2 x3 (ix5 b n t h d) * val_main_v63 (F := Ideal) x4 (ix3 h s t)) + x5 (ix3 0 h s) := by
  rw [val_main_v70_apply, val_main_v65_apply, val_main_v64_apply, val_main_v69_apply, val_main_v68_apply, val_main_v67_apply, val_main_v66_apply]
  refine congrArg₂ (· + ·) (Finset.sum_congr rfl fun t _ => congrArg₂ (· * ·) (congrArg _ ?_) (congrArg _ ?_)) (congrArg x5 ?_)
  · exact funext fun a => match a with | ⟨0, _⟩ => rfl | ⟨1, _⟩ => rfl | ⟨2, _⟩ => rfl | ⟨3, _⟩ => rfl | ⟨4, _⟩ => rfl
  · exact funext fun a => match a with | ⟨0, _⟩ => rfl | ⟨1, _⟩ => rfl | ⟨2, _⟩ => rfl
  · refine funext fun a => Fin.ext ?_
    match a with
    | ⟨0, _⟩ => rfl
    | ⟨1, _⟩ => show (h.val * 128 + s.val) / 128 % 12 = h.val; omega
    | ⟨2, _⟩ => show (h.val * 128 + s.val) % 128 = s.val; omega

/-- The mixer's first result at a token and a lane. -/
theorem mix_at (b : Fin 4) (s : Fin 8192) (j : Fin 768) : val_main_v96 (F := Ideal) x0 x1 x2 x3 x4 x5 (ix3 b s j)
    = Row.gate C E (fun t k => x0 (ix3 b ⟨128 * (s.val / 128) + t.val, by omega⟩ k)) (fun k j => x1 (ix3 0 k j))
      (fun l => x2 (ix2 0 l)) (fun l => x3 (ix2 0 l))
      (fun t => x4 (ix4 0 ⟨j.val / 64, by omega⟩ ⟨s.val % 128, by omega⟩ t))
      (x5 (ix3 0 ⟨j.val / 64, by omega⟩ ⟨s.val % 128, by omega⟩)) ⟨s.val % 128, by omega⟩ j := by
  have e : idx_main_v71 (ix3 b s j) = ix5 b ⟨s.val / 128, by omega⟩ ⟨s.val % 128, by omega⟩ ⟨j.val / 64, by omega⟩ ⟨j.val % 64, by omega⟩ := by
    refine funext fun a => Fin.ext ?_
    match a with
    | ⟨0, _⟩ => show ((b.val * 8192 + s.val) * 768 + j.val) / 6291456 = b.val; omega
    | ⟨1, _⟩ => show ((b.val * 8192 + s.val) * 768 + j.val) / 98304 % 64 = s.val / 128; omega
    | ⟨2, _⟩ => show ((b.val * 8192 + s.val) * 768 + j.val) / 768 % 128 = s.val % 128; omega
    | ⟨3, _⟩ => show ((b.val * 8192 + s.val) * 768 + j.val) / 64 % 12 = j.val / 64; omega
    | ⟨4, _⟩ => show ((b.val * 8192 + s.val) * 768 + j.val) % 64 = j.val % 64; omega
  have e0 : val_main_v96 (F := Ideal) x0 x1 x2 x3 x4 x5 (ix3 b s j)
      = val_main_v17 (F := Ideal) x0 x1 (ix3 b s j) * val_main_v71 (F := Ideal) x0 x1 x2 x3 x4 x5 (ix3 b s j) := by
    pointwise [val_main_v96, val_main_v72]
  rw [e0, v17_at, v2_at, val_main_v71_apply, e, v70_at]
  have hs : (⟨128 * (s.val / 128) + s.val % 128, by omega⟩ : Fin 8192) = s := Fin.ext (by simp; omega)
  have hj : (⟨64 * (j.val / 64) + j.val % 64, by omega⟩ : Fin 768) = j := Fin.ext (by simp; omega)
  unfold Row.gate
  refine congrArg₂ (fun a b => Row.gelu a * (b + _)) ?_ (Finset.sum_congr rfl fun t _ => ?_)
  · exact congrArg (fun u : Fin 8192 => Row.proj (fun k => x0 (ix3 b u k)) (fun k (j : Fin 1792) => x1 (ix3 0 k j)) ⟨j.val, by omega⟩) hs.symm
  · rw [v57_at, value_at, v63_at]
    simp only [hj]
    by_cases h : t.val ≤ s.val % 128
    · rw [if_pos h, if_pos h, mul_one, mul_comm]
    · rw [if_neg h, if_neg h, mul_zero, mul_zero, zero_mul]

/-- A scaled score of the memory attention. -/
theorem v81_at (b h : Fin 4) (s : Fin 8192) (n : Fin 256) : val_main_v81 (F := Ideal) x0 x1 x6 (ix4 b h s n)
    = Row.score SC (fun d => ∑ k, x0 (ix3 b s k) * x1 (ix3 0 k ⟨1536 + (64 * h.val + d.val), by omega⟩))
      (fun n d => x6 (ix3 b n ⟨64 * h.val + d.val, by omega⟩)) n := by
  have e : val_main_v81 (F := Ideal) x0 x1 x6 (ix4 b h s n) = val_main_v79 (F := Ideal) x0 x1 x6 (ix4 b h s n) * SC := by
    pointwise [val_main_v81, val_main_v80, val_main_cst_13, SC]
  rw [e, val_main_v79_apply]
  unfold Row.score
  refine congrArg (· * SC) (Finset.sum_congr rfl fun d _ => congrArg₂ (· * ·) ?_ ?_)
  · rw [val_main_v76_apply]
    refine Eq.trans (congrArg (val_main_v4 (F := Ideal) x0 x1) (funext fun a => Fin.ext ?_)) (v4_at x0 x1 b s ⟨64 * h.val + d.val, by omega⟩)
    match a with
    | ⟨0, _⟩ => show (((b.val * 8192 + s.val) * 4 + h.val) * 64 + d.val) / 2097152 = b.val; omega
    | ⟨1, _⟩ => show (((b.val * 8192 + s.val) * 4 + h.val) * 64 + d.val) / 256 % 8192 = s.val; omega
    | ⟨2, _⟩ => show (((b.val * 8192 + s.val) * 4 + h.val) * 64 + d.val) % 256 = 64 * h.val + d.val; omega
  · rw [val_main_v77_apply, val_main_v74_apply, val_main_v73_apply]
    refine congrArg x6 (funext fun a => Fin.ext ?_)
    match a with
    | ⟨0, _⟩ => show (((b.val * 256 + n.val) * 4 + h.val) * 64 + d.val) / 65536 = b.val; omega
    | ⟨1, _⟩ => show (((b.val * 256 + n.val) * 4 + h.val) * 64 + d.val) / 256 % 256 = n.val; omega
    | ⟨2, _⟩ => show (((b.val * 256 + n.val) * 4 + h.val) * 64 + d.val) % 256 = 64 * h.val + d.val; omega

/-- The maximum over the last axis, at an index. -/
theorem fold_at (v : FVec Ideal S4x4x8192x256 .f32) (i : FVec Ideal S_ .f32) (b h : Fin 4) (s : Fin 8192) :
    Host.reduce FloatOps.maximumf v i reducesTo_S4x4x8192x256_S4x4x8192_d3 h_S_ (ix3 b h s)
      = Finset.univ.fold max (i (Shape.Idx.first h_S_)) fun l : Fin 256 => v (ix4 b h s l) := by
  pointwise

/-- The largest score of a row. -/
theorem v84_at (b h : Fin 4) (s : Fin 8192) : val_main_v84 (F := Ideal) x0 x1 x6 (ix3 b h s)
    = Finset.univ.fold max BOT fun l : Fin 256 => val_main_v81 (F := Ideal) x0 x1 x6 (ix4 b h s l) := by
  rw [val_main_v84_apply, val_main_v83_apply, val_main_v82, fold_at]
  exact Row.max_fold _ _ _

/-- The exponential of a score less the row's largest. -/
theorem v88_at (b h : Fin 4) (s : Fin 8192) (n : Fin 256) : val_main_v88 (F := Ideal) x0 x1 x6 (ix4 b h s n)
    = Ideal.exp (val_main_v81 (F := Ideal) x0 x1 x6 (ix4 b h s n) - val_main_v84 (F := Ideal) x0 x1 x6 (ix3 b h s)) := by
  pointwise [val_main_v88, val_main_v87, val_main_v86, val_main_v85]

/-- A softmax weight of the memory attention. -/
theorem v92_at (b h : Fin 4) (s : Fin 8192) (n : Fin 256) : val_main_v92 (F := Ideal) x0 x1 x6 (ix4 b h s n)
    = Ideal.div (val_main_v88 (F := Ideal) x0 x1 x6 (ix4 b h s n)) (∑ l : Fin 256, val_main_v88 (F := Ideal) x0 x1 x6 (ix4 b h s l)) := by
  pointwise [val_main_v92, val_main_v91, val_main_v90, val_main_v89, val_main_cst_16]

/-- The mixer's second result at a token and a lane. -/
theorem mem_at (b : Fin 4) (s : Fin 8192) (j : Fin 256) : val_main_v97 (F := Ideal) x0 x1 x6 (ix3 b s j)
    = Row.head BOT SC (fun d => ∑ k, x0 (ix3 b s k) * x1 (ix3 0 k ⟨1536 + (64 * (j.val / 64) + d.val), by omega⟩))
      (fun n d => x6 (ix3 b n ⟨64 * (j.val / 64) + d.val, by omega⟩))
      (fun n d => x6 (ix3 b n ⟨256 + (64 * (j.val / 64) + d.val), by omega⟩)) ⟨j.val % 64, by omega⟩ := by
  have e0 : val_main_v97 (F := Ideal) x0 x1 x6 (ix3 b s j) = val_main_v95 (F := Ideal) x0 x1 x6 (ix3 b s j) := by
    pointwise [val_main_v97]
  have e : idx_main_v94 (idx_main_v95 (ix3 b s j)) = ix4 b ⟨j.val / 64, by omega⟩ ⟨j.val % 64, by omega⟩ s := by
    refine funext fun a => Fin.ext ?_
    match a with
    | ⟨0, _⟩ => show ((b.val * 8192 + s.val) * 256 + j.val) / 2097152 = b.val; omega
    | ⟨1, _⟩ => show ((b.val * 8192 + s.val) * 256 + j.val) / 64 % 4 = j.val / 64; omega
    | ⟨2, _⟩ => show ((b.val * 8192 + s.val) * 256 + j.val) % 64 = j.val % 64; omega
    | ⟨3, _⟩ => show ((b.val * 8192 + s.val) * 256 + j.val) / 256 % 8192 = s.val; omega
  rw [e0, val_main_v95_apply, val_main_v94_apply, e, val_main_v93_apply]
  unfold Row.head
  refine Finset.sum_congr rfl fun n _ => congrArg₂ (· * ·) ?_ ?_
  · rw [val_main_v78_apply, val_main_v75_apply, val_main_v73_apply]
    refine congrArg x6 (funext fun a => Fin.ext ?_)
    match a with
    | ⟨0, _⟩ => show (((b.val * 256 + n.val) * 4 + j.val / 64) * 64 + j.val % 64) / 65536 = b.val; omega
    | ⟨1, _⟩ => show (((b.val * 256 + n.val) * 4 + j.val / 64) * 64 + j.val % 64) / 256 % 256 = n.val; omega
    | ⟨2, _⟩ => show 256 + (((b.val * 256 + n.val) * 4 + j.val / 64) * 64 + j.val % 64) % 256 = 256 + (64 * (j.val / 64) + j.val % 64); omega
  · have er : ridx_main_v93 (ix4 b (⟨j.val / 64, by omega⟩ : Fin 4) (⟨j.val % 64, by omega⟩ : Fin 64) s) n = ix4 b ⟨j.val / 64, by omega⟩ s n :=
      funext fun a => match a with | ⟨0, _⟩ => rfl | ⟨1, _⟩ => rfl | ⟨2, _⟩ => rfl | ⟨3, _⟩ => rfl
    rw [er, v92_at]
    simp only [v88_at, v84_at, v81_at]
    rfl

end Cert.GmlpRefIdeal.RowValue

end
-- ==== Proof.GmlpClaim.lean ====
/- The claim about the mixer: on finite inputs kernel and reference compute the same two arrays. -/
module

public import proofs.«01_k».proof.Defs
public import proofs.«01_k».proof.Proof.GmlpMix
public import proofs.«01_k».proof.Proof.GmlpMem
public import proofs.«01_k».proof.Proof.GmlpRefValue
public import proofs.«01_k».proof.Proof.Gen.GmlpRefIdeal.Run
public import Idealize.ShloMosaic.Lib.Claim

@[expose] public section

set_option maxRecDepth 16384

noncomputable section

namespace Cert.GmlpClaim

open Idealize.ShloMosaic Idealize.ShloMosaic.TcCoe

/-- The precondition's side conditions: a scalar spreads over any shape. -/
theorem facts : Cert.Pre_finite.Facts where
  bcast_S_S4x8192x1024 := by decide
  bcast_S_S1x1024x1792 := by decide
  bcast_S_S4x256x512 := by decide

/-- An entry whose magnitude compares below infinity is real. -/
theorem real_of_olt {x t : EReal} (ht : t = ⊤) (h : Ideal.cmp .olt (max x (-x)) t = 1#1) : ∃ r : ℝ, x = r := by
  refine Row.real_of_abs_lt ?_
  by_contra hn
  simp [Ideal.cmp, ht, hn] at h

/-- Where the precondition holds the rows, the projection and the memory are real. -/
theorem real [Cert.Pre_finite.Facts] {m : (ℓ : Loc Cert.GmlpIdeal.nD Cert.GmlpIdeal.τ Cert.GmlpIdeal.sig) → Buf (Elt Ideal) ℓ}
    (h : Cert.Pre_GmlpIdeal_finite m) (c : Dev Cert.GmlpIdeal.nD) :
    Row.Real (ι := GmlpIdeal.S4x8192x1024.Idx) (m ((c : Thread GmlpIdeal.nD GmlpIdeal.τ).loc GmlpIdeal.main_arg0))
    ∧ Row.Real (ι := GmlpIdeal.S1x1024x1792.Idx) (m ((c : Thread GmlpIdeal.nD GmlpIdeal.τ).loc GmlpIdeal.main_arg1))
    ∧ Row.Real (ι := GmlpIdeal.S4x256x512.Idx) (m ((c : Thread GmlpIdeal.nD GmlpIdeal.τ).loc GmlpIdeal.main_arg6)) := by
  obtain ⟨h0, h1, h6⟩ := h c
  refine ⟨fun i => real_of_olt ?_ (congrFun h0 i), fun i => real_of_olt ?_ (congrFun h1 i), fun i => real_of_olt ?_ (congrFun h6 i)⟩
  · show Ideal.ofBits .f32 0x7F800000#32 = ⊤
    simp [Ideal.ofBits, Ideal.ieee]
  · show Ideal.ofBits .f32 0x7F800000#32 = ⊤
    simp [Ideal.ofBits, Ideal.ieee]
  · show Ideal.ofBits .bf16 0x7F80#16 = ⊤
    simp [Ideal.ofBits, Ideal.ieee]

/-- The reference's first result is the gated mixer of its arguments. -/
theorem mix (x0 : FVec Ideal GmlpRefIdeal.S4x8192x1024 .f32) (x1 : FVec Ideal GmlpRefIdeal.S1x1024x1792 .f32) (x2 x3 : FVec Ideal GmlpRefIdeal.S1x768 .f32)
    (x4 : FVec Ideal GmlpRefIdeal.S1x12x128x128 .f32) (x5 : FVec Ideal GmlpRefIdeal.S1x12x128 .f32) :
    GmlpRefIdeal.Read.val_main_v96 (F := Ideal) x0 x1 x2 x3 x4 x5 = GmlpIdeal.RowValue.REF7 x0 x1 x2 x3 x4 x5 := by
  funext i
  rw [eq_ix3 i]
  exact GmlpRefIdeal.RowValue.mix_at _ _ _ _ _ _ (i 0) (i 1) (i 2)

/-- The reference's second result is the memory attention of its arguments. -/
theorem mem (x0 : FVec Ideal GmlpRefIdeal.S4x8192x1024 .f32) (x1 : FVec Ideal GmlpRefIdeal.S1x1024x1792 .f32) (x6 : FVec Ideal GmlpRefIdeal.S4x256x512 .bf16) :
    GmlpRefIdeal.Read.val_main_v97 (F := Ideal) x0 x1 x6 = GmlpIdeal.RowValue.REF8 x0 x1 x6 := by
  funext i
  rw [eq_ix3 i]
  exact GmlpRefIdeal.RowValue.mem_at _ _ _ (i 0) (i 1) (i 2)

/-- The idealized kernel and the reference leave the same two arrays from the same finite arguments. -/
theorem algebraic [hPre_finite : Cert.Pre_finite.Facts] : Cert.algebraic_GmlpIdeal_GmlpRefIdeal_pre_finite := by
  pair_intro
  · run_from Cert.GmlpIdeal.Gen.run_main m g
  · run_from Cert.GmlpRefIdeal.Value.run m' g'
    · obtain ⟨h0, h1, h2, h3, h4, h5, h6⟩ := hagree c
      rw [GmlpIdeal.RowValue.final7 m c]
      refine (GmlpRefIdeal.Read.val_main_v96_eq m' c).trans ((mix _ _ _ _ _ _).trans ?_)
      rw [← h0, ← h1, ← h2, ← h3, ← h4, ← h5]
    · obtain ⟨h0, h1, h2, h3, h4, h5, h6⟩ := hagree c
      obtain ⟨r0, r1, r6⟩ := real hpre c
      rw [GmlpIdeal.RowValue.final8 m c r0 r1 r6]
      refine (GmlpRefIdeal.Read.val_main_v97_eq m' c).trans ((mem _ _ _).trans ?_)
      rw [← h0, ← h1, ← h6]

end Cert.GmlpClaim

end
-- ==== Proof.FrontTile.lean ====
/- The projection call: what its stored tiles are at an index, and what its windows hold at each grid point. -/
module

public import proofs.«01_k».proof.Proof.RowAttn
public import proofs.«01_k».proof.Proof.Gen.FrontIdeal.Value
public import Idealize.ShloMosaic.Lib.Pipeline.ValueKit

@[expose] public section

set_option maxRecDepth 16384

noncomputable section

namespace Cert.FrontIdeal.RowValue

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

/-- The maximum's seed: minus infinity. -/
abbrev BOT : EReal := Ideal.ofBits .f32 0xFF800000#32
/-- The scale of a score: an eighth. -/
abbrev SC : EReal := Ideal.ofBits .f32 0x3E000000#32
/-- The scale of a query. -/
abbrev QS : EReal := Ideal.ofBits .f32 0x3E38AA3B#32
/-- The tokens in a block. -/
abbrev NB : EReal := Ideal.ofBits .f32 0x43800000#32

/-- A row's projection on one column of the weight. -/
def proj (X0 : S4x8192x1024.Idx → EReal) (X1 : S1x1024x2560.Idx → EReal) (b : Fin 4) (s : Fin 8192) (j : Fin 2560) : EReal :=
  ∑ k, X0 (ix3 b s k) * X1 (ix3 0 k j)

/-- The scaled queries as a function of the arguments. -/
def REF4 (X0 : S4x8192x1024.Idx → EReal) (X1 : S1x1024x2560.Idx → EReal) : S4x8192x768.Idx → EReal := fun i =>
  have h2 : (i 2).val < 768 := (i 2).isLt
  proj X0 X1 (i 0) (i 1) ⟨(i 2).val, by omega⟩ * QS

/-- The keys as a function of the arguments. -/
def REF5 (X0 : S4x8192x1024.Idx → EReal) (X1 : S1x1024x2560.Idx → EReal) : S4x8192x768.Idx → EReal := fun i =>
  have h2 : (i 2).val < 768 := (i 2).isLt
  proj X0 X1 (i 0) (i 1) ⟨768 + (i 2).val, by omega⟩

/-- The values of each block of tokens as a function of the arguments: lanes by tokens, then rows of ones. -/
def REF6 (X0 : S4x8192x1024.Idx → EReal) (X1 : S1x1024x2560.Idx → EReal) : S4x32x12x80x256.Idx → EReal := fun i =>
  have h1 : (i 1).val < 32 := (i 1).isLt
  have h2 : (i 2).val < 12 := (i 2).isLt
  have h4 : (i 4).val < 256 := (i 4).isLt
  if h : (i 3).val < 64 then proj X0 X1 (i 0) ⟨256 * (i 1).val + (i 4).val, by omega⟩ ⟨1536 + (64 * (i 2).val + (i 3).val), by omega⟩ else 1

/-- The mean keys of the blocks as a function of the arguments. -/
def REF7 (X0 : S4x8192x1024.Idx → EReal) (X1 : S1x1024x2560.Idx → EReal) : S4x8x4x768.Idx → EReal := fun i =>
  have h1 : (i 1).val < 8 := (i 1).isLt
  have h2 : (i 2).val < 4 := (i 2).isLt
  have h3 : (i 3).val < 768 := (i 3).isLt
  Ideal.div (∑ q : Fin 256, proj X0 X1 (i 0) ⟨1024 * (i 1).val + (256 * (i 2).val + q.val), by omega⟩ ⟨768 + (i 3).val, by omega⟩) NB

/-- The memory attention as a function of the arguments: a lane's head attends over the memory. -/
def REF8 (X0 : S4x8192x1024.Idx → EReal) (X1 : S1x1024x2560.Idx → EReal) (X2 : S4x256x512.Idx → EReal) : S4x8192x256.Idx → EReal := fun i =>
  have h2 : (i 2).val < 256 := (i 2).isLt
  Row.head BOT SC (fun d => proj X0 X1 (i 0) (i 1) ⟨2304 + (64 * ((i 2).val / 64) + d.val), by omega⟩)
    (fun n d => X2 (ix3 (i 0) n ⟨64 * ((i 2).val / 64) + d.val, by omega⟩))
    (fun n d => X2 (ix3 (i 0) n ⟨256 + (64 * ((i 2).val / 64) + d.val), by omega⟩)) ⟨(i 2).val % 64, by omega⟩

/-- Stored queries of the upper half block. -/
theorem pay3_at (x : Vec Ideal S1x512x1024 .f32) (w : Vec Ideal S1024x768 .bf16) (p : Fin 512) (j : Fin 768) :
    k0_pay3 (F := Ideal) x w (ix3 0 p j) = (∑ k, x (ix3 0 p k) * w (ix2 k j)) * QS := by
  pointwise [k0_pay3, k0_pay2, QS]

/-- Stored queries of the lower half block. -/
theorem pay64_at (x : Vec Ideal S1x512x1024 .f32) (w : Vec Ideal S1024x768 .bf16) (p : Fin 512) (j : Fin 768) :
    k0_pay64 (F := Ideal) x w (ix3 0 p j) = (∑ k, x (ix3 0 p k) * w (ix2 k j)) * QS := by
  pointwise [k0_pay64, k0_pay63, QS]

/-- Keys of the upper half block. -/
theorem pay4_at (x : Vec Ideal S1x512x1024 .f32) (w : Vec Ideal S1024x768 .bf16) (p : Fin 512) (j : Fin 768) :
    k0_pay4 (F := Ideal) x w (ix2 p j) = ∑ k, x (ix3 0 p k) * w (ix2 k j) := by
  pointwise [k0_pay4, k0_pay2]

/-- Keys of the lower half block. -/
theorem pay65_at (x : Vec Ideal S1x512x1024 .f32) (w : Vec Ideal S1024x768 .bf16) (p : Fin 512) (j : Fin 768) :
    k0_pay65 (F := Ideal) x w (ix2 p j) = ∑ k, x (ix3 0 p k) * w (ix2 k j) := by
  pointwise [k0_pay65, k0_pay63]

/-- Stored keys of the upper half block. -/
theorem pay5_at (x : Vec Ideal S1x512x1024 .f32) (w : Vec Ideal S1024x768 .bf16) (p : Fin 512) (j : Fin 768) :
    k0_pay5 (F := Ideal) x w (ix3 0 p j) = ∑ k, x (ix3 0 p k) * w (ix2 k j) := by
  pointwise [k0_pay5, k0_pay4, k0_pay2]

/-- Stored keys of the lower half block. -/
theorem pay66_at (x : Vec Ideal S1x512x1024 .f32) (w : Vec Ideal S1024x768 .bf16) (p : Fin 512) (j : Fin 768) :
    k0_pay66 (F := Ideal) x w (ix3 0 p j) = ∑ k, x (ix3 0 p k) * w (ix2 k j) := by
  pointwise [k0_pay66, k0_pay65, k0_pay63]

/-- Values of the upper half block, lanes by tokens. -/
theorem pay6_at (x : Vec Ideal S1x512x1024 .f32) (w : Vec Ideal S768x1024 .bf16) (j : Fin 768) (p : Fin 512) :
    k0_pay6 (F := Ideal) x w (ix2 j p) = ∑ k, w (ix2 j k) * x (ix3 0 p k) := by
  pointwise [k0_pay6, k0_pay2]

/-- Values of the lower half block, lanes by tokens. -/
theorem pay67_at (x : Vec Ideal S1x512x1024 .f32) (w : Vec Ideal S768x1024 .bf16) (j : Fin 768) (p : Fin 512) :
    k0_pay67 (F := Ideal) (k0_pay63 x) w (ix2 j p) = ∑ k, w (ix2 j k) * x (ix3 0 p k) := by
  pointwise [k0_pay67, k0_pay63]

/-- The mean of a block of 256 rows. -/
def mean (r : ℕ) (h : S512x768.Slices ![r, 0] S256x768) (k : FVec Ideal S512x768 .f32) : FVec Ideal S1x1x1x768 .f32 :=
  shapeCast S1x1x1x768 (divf (shapeCast S1x768 (multiReduction .add [0] S768 (extractStridedSlice S256x768 ![r, 0] k h) 0x00000000#32
    reduces_S256x768_S768 (.inl rfl) rfl) shapeCasts_S768_S1x768) (broadcast S1x768 (Scalar.ofBits .f32 0x43800000#32))) shapeCasts_S1x768_S1x1x1x768

/-- The mean of a block at a column. -/
theorem mean_at (r : ℕ) (hr : r ≤ 256) (h : S512x768.Slices ![r, 0] S256x768) (k : FVec Ideal S512x768 .f32) (j : Fin 768) :
    mean r h k (ix4 0 0 0 j) = Ideal.div (∑ q : Fin 256, k (ix2 ⟨r + q.val, by omega⟩ j)) NB := by
  pointwise [mean, NB]

/-- The memory queries of the upper half block, scaled. -/
theorem query_at (x : Vec Ideal S1x512x1024 .f32) (w : Vec Ideal S1024x256 .bf16) (p : Fin 512) (l : Fin 256) :
    k0_pay123 (F := Ideal) (k0_pay62 (k0_pay2 x) w) (ix2 p l) = (∑ k, x (ix3 0 p k) * w (ix2 k l)) * SC := by
  pointwise [k0_pay123, k0_pay62, k0_pay2, SC]

/-- The memory queries of the lower half block, scaled. -/
theorem query_at' (x : Vec Ideal S1x512x1024 .f32) (w : Vec Ideal S1024x256 .bf16) (p : Fin 512) (l : Fin 256) :
    k0_pay135 (F := Ideal) (k0_pay122 (k0_pay63 x) w) (ix2 p l) = (∑ k, x (ix3 0 p k) * w (ix2 k l)) * SC := by
  pointwise [k0_pay135, k0_pay122, k0_pay63, SC]

/-- A stored tile of values: one head's lanes at one block's tokens. -/
theorem vtile_at (v : FVec Ideal S768x512 .f32) (r c : ℕ) (h : S768x512.Slices ![r, c] S64x256) (d : Fin 64) (q : Fin 256)
    (R : Fin 768) (P : Fin 512) (hR : R.val = r + d.val) (hP : P.val = c + q.val) :
    (shapeCast S1x1x1x64x256 (truncf .bf16 (extractStridedSlice S64x256 ![r, c] v h) bitsLt_bf16_f32 : FVec Ideal S64x256 .bf16) shapeCasts_S64x256_S1x1x1x64x256 : FVec Ideal S1x1x1x64x256 .bf16) (ix5 0 0 0 d q)
      = v (ix2 R P) := by
  pointwise
  exact congrArg v (congrArg₂ ix2 (Fin.ext hR.symm) (Fin.ext hP.symm))

/-- A stored tile of ones. -/
theorem ones_at (d : Fin 16) (q : Fin 256) :
    (shapeCast S1x1x1x16x256 (k0_pay1 (F := Ideal)) shapeCasts_S16x256_S1x1x1x16x256 : FVec Ideal S1x1x1x16x256 .bf16) (ix5 0 0 0 d q) = 1 := by
  pointwise [k0_pay1]

/-- Which block each window holds at each grid point. -/
theorem idx_val : ∀ t : Fin cfg0.N,
      win0_0.index t = ![t.val / 8, t.val % 8, 0] ∧ win0_1.index t = ![0, 0] ∧ win0_2.index t = ![0, 0]
      ∧ win0_3.index t = ![t.val / 8, 0, 0] ∧ win0_4.index t = ![t.val / 8, t.val % 8, 0]
      ∧ win0_5.index t = ![t.val / 8, t.val % 8, 0] ∧ win0_6.index t = ![t.val / 8, t.val % 8, 0, 0, 0]
      ∧ win0_7.index t = ![t.val / 8, t.val % 8, 0, 0] ∧ win0_8.index t = ![t.val / 8, t.val % 8, 0] :=
  (by decide +kernel : ∀ t : Fin grid0.N, _)

/-- A coordinate inside a unit rectangle. -/
theorem unit_idx {s : Shape} (off sz : Fin s.rank → ℕ) (inb : ∀ a, off a + sz a ≤ s.size a)
    (j : (Rect.unit (s := s) off sz inb).shape.Idx) (a : Fin s.rank) :
    ((Rect.unit (s := s) off sz inb).idx j a).val = off a + (j a).val := congrArg (off a + ·) (Nat.one_mul _)

/-- The rows of half a block of the input. -/
theorem x_at (c : Dev nD) (t : Fin cfg0.N) (o : ℕ) (inb : ∀ a, (![0, o, 0] : Fin 3 → ℕ) a + (![1, 512, 1024] : Fin 3 → ℕ) a ≤ S1x1024x1024.size a)
    (P : Fin 512) (k : Fin 1024) (B : Fin 4) (S : Fin 8192) (hB : B.val = t.val / 8) (hS : S.val = 1024 * (t.val % 8) + (o + P.val)) :
    View.ld (iblk m c 0 t) (Rect.unit (s := S1x1024x1024) ![0, o, 0] ![1, 512, 1024] inb) (ix3 0 P k) = m ((c : Thread nD τ).loc main_arg0) (ix3 B S k) := by
  blk_point [iblk, V, idx_val t]

/-- The queries', keys' and memory queries' weight after its cuts and its cast. -/
theorem host1 (c : Dev nD) (k : Fin 1024) (j : Fin 1792) (n : Fin 2560) (hn : n.val = if j.val < 1536 then j.val else 2304 + (j.val - 1536)) :
    (V m c main_v4 : S1024x1792.Idx → EReal) (ix2 k j) = m ((c : Thread nD τ).loc main_arg1) (ix3 0 k n) := by
  have e : (V m c main_v4 : S1024x1792.Idx → EReal) (ix2 k j) = if h : j.val < 1536 then m ((c : Thread nD τ).loc main_arg1) (ix3 0 k ⟨j.val, by omega⟩)
      else m ((c : Thread nD τ).loc main_arg1) (ix3 0 k ⟨2304 + (j.val - 1536), by omega⟩) := by
    entry_read
    pointwise
  rw [e]
  split
  · exact congrArg (fun n : Fin 2560 => m ((c : Thread nD τ).loc main_arg1) (ix3 0 k n)) (Fin.ext (by simp_all))
  · exact congrArg (fun n : Fin 2560 => m ((c : Thread nD τ).loc main_arg1) (ix3 0 k n)) (Fin.ext (by simp_all))

/-- The values' weight, transposed. -/
theorem host2 (c : Dev nD) (j : Fin 768) (k : Fin 1024) (n : Fin 2560) (hn : n.val = 1536 + j.val) :
    (V m c main_v6 : S768x1024.Idx → EReal) (ix2 j k) = m ((c : Thread nD τ).loc main_arg1) (ix3 0 k n) := by
  have e : (V m c main_v6 : S768x1024.Idx → EReal) (ix2 j k) = m ((c : Thread nD τ).loc main_arg1) (ix3 0 k ⟨1536 + j.val, by omega⟩) := by
    entry_read
    pointwise
  exact e.trans (congrArg (fun n : Fin 2560 => m ((c : Thread nD τ).loc main_arg1) (ix3 0 k n)) (Fin.ext hn.symm))

/-- A cut of columns of the weight. -/
theorem w_at (c : Dev nD) (t : Fin cfg0.N) (o w : ℕ) (inb : ∀ a, (![0, o] : Fin 2 → ℕ) a + (![1024, w] : Fin 2 → ℕ) a ≤ S1024x1792.size a)
    (k : Fin 1024) (l : Fin w) (n : Fin 2560) (hn : n.val = if o + l.val < 1536 then o + l.val else 2304 + (o + l.val - 1536)) :
    View.ld (iblk m c 1 t) (Rect.unit (s := S1024x1792) ![0, o] ![1024, w] inb) (ix2 k l) = m ((c : Thread nD τ).loc main_arg1) (ix3 0 k n) := by
  have hw := inb 1
  refine Eq.trans ?_ (host1 m c k ⟨o + l.val, by simp at hw; omega⟩ n hn)
  refine congrArg (V m c main_v4 : S1024x1792.Idx → EReal) ?_
  blk_ext [idx_val t]
  all_goals simp [unit_idx] <;> omega

/-- The values' weight, read through its window. -/
theorem wv_at (c : Dev nD) (t : Fin cfg0.N) (inb : ∀ a, (![0, 0] : Fin 2 → ℕ) a + (![768, 1024] : Fin 2 → ℕ) a ≤ S768x1024.size a)
    (j : Fin 768) (k : Fin 1024) (n : Fin 2560) (hn : n.val = 1536 + j.val) :
    View.ld (iblk m c 2 t) (Rect.unit (s := S768x1024) ![0, 0] ![768, 1024] inb) (ix2 j k) = m ((c : Thread nD τ).loc main_arg1) (ix3 0 k n) := by
  refine Eq.trans ?_ (host2 m c j k n hn)
  refine congrArg (V m c main_v6 : S768x1024.Idx → EReal) ?_
  blk_ext [idx_val t]
  all_goals simp [unit_idx] <;> omega

end Cert.FrontIdeal.RowValue

end
-- ==== Proof.FrontProj.lean ====
/- The projection call's queries, keys and mean keys as functions of its arguments. -/
module

public import proofs.«01_k».proof.Proof.FrontTile

@[expose] public section

set_option maxRecDepth 16384

noncomputable section

namespace Cert.FrontIdeal.RowValue

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

/-- A row of a half block times a column cut out of the weight is the projection of the row it lands on. -/
theorem proj_row (c : Dev nD) (t : Fin cfg0.N) (o r w : ℕ)
    (hx : ∀ a, (![0, o, 0] : Fin 3 → ℕ) a + (![1, 512, 1024] : Fin 3 → ℕ) a ≤ S1x1024x1024.size a)
    (hw : ∀ a, (![0, r] : Fin 2 → ℕ) a + (![1024, w] : Fin 2 → ℕ) a ≤ S1024x1792.size a) (p : Fin 512) (l : Fin w)
    (b : Fin 4) (s : Fin 8192) (n : Fin 2560) (hb : b.val = t.val / 8) (hs : s.val = 1024 * (t.val % 8) + (o + p.val))
    (hr : r + w ≤ 1536) (hn : n.val = r + l.val) :
    (∑ k : Fin 1024, (fun a b : EReal => a * b) (View.ld (iblk m c 0 t) (Rect.unit (s := S1x1024x1024) ![0, o, 0] ![1, 512, 1024] hx) (ix3 0 p k))
        (View.ld (iblk m c 1 t) (Rect.unit (s := S1024x1792) ![0, r] ![1024, w] hw) (ix2 k l)))
      = proj (m ((c : Thread nD τ).loc main_arg0)) (m ((c : Thread nD τ).loc main_arg1)) b s n :=
  Finset.sum_congr rfl fun k _ => congrArg₂ (fun a b : EReal => a * b) (x_at m c t o hx p k b s hb hs) (w_at m c t r w hw k l n (hn.trans (if_pos (by omega)).symm))

set_option maxHeartbeats 4000000 in
/-- The queries the call leaves. -/
theorem final4 (c : Dev nD) : (dats m 0 c).arrAt 4 cfg0.N
    = (REF4 (m ((c : Thread nD τ).loc main_arg0)) (m ((c : Thread nD τ).loc main_arg1)) : S4x8192x768.Idx → EReal) := by
  refine (dats m 0 c).arrAt_eq_of_covers 4 _ (by decide +kernel) fun t _ y => ?_
  blk_simp
  rw [after0_4]
  unfold Gen.outsAt0
  frame_out
  canon_tiles x h
  · idx_vars x
    obtain rfl : x0 = 0 := Subsingleton.elim _ _
    have e0 : (((win0_4.blk t).view.emb y : S4x8192x768.Idx) 0).val = t.val / 8 := by blk_simp [idx_val t]
    have e1 : (((win0_4.blk t).view.emb y : S4x8192x768.Idx) 1).val = 1024 * (t.val % 8) + (512 + x1.val) := by blk_simp [idx_val t]; omega
    have e2 : (((win0_4.blk t).view.emb y : S4x8192x768.Idx) 2).val = x2.val := by blk_simp [idx_val t]; omega
    refine (pay64_at _ _ x1 x2).trans (congrArg (· * QS) (proj_row m c t 512 0 768 _ _ x1 x2 _ _ _ e0 e1 (by decide) ?_))
    show (((win0_4.blk t).view.emb y : S4x8192x768.Idx) 2).val = 0 + x2.val
    omega
  · idx_vars x
    obtain rfl : x0 = 0 := Subsingleton.elim _ _
    have e0 : (((win0_4.blk t).view.emb y : S4x8192x768.Idx) 0).val = t.val / 8 := by blk_simp [idx_val t]
    have e1 : (((win0_4.blk t).view.emb y : S4x8192x768.Idx) 1).val = 1024 * (t.val % 8) + (0 + x1.val) := by blk_simp [idx_val t]; omega
    have e2 : (((win0_4.blk t).view.emb y : S4x8192x768.Idx) 2).val = x2.val := by blk_simp [idx_val t]; omega
    refine (pay3_at _ _ x1 x2).trans (congrArg (· * QS) (proj_row m c t 0 0 768 _ _ x1 x2 _ _ _ e0 e1 (by decide) ?_))
    show (((win0_4.blk t).view.emb y : S4x8192x768.Idx) 2).val = 0 + x2.val
    omega

set_option maxHeartbeats 4000000 in
/-- The keys the call leaves. -/
theorem final5 (c : Dev nD) : (dats m 0 c).arrAt 5 cfg0.N
    = (REF5 (m ((c : Thread nD τ).loc main_arg0)) (m ((c : Thread nD τ).loc main_arg1)) : S4x8192x768.Idx → EReal) := by
  refine (dats m 0 c).arrAt_eq_of_covers 5 _ (by decide +kernel) fun t _ y => ?_
  blk_simp
  rw [after0_5]
  unfold Gen.outsAt0
  frame_out
  canon_tiles x h
  · idx_vars x
    obtain rfl : x0 = 0 := Subsingleton.elim _ _
    have e0 : (((win0_5.blk t).view.emb y : S4x8192x768.Idx) 0).val = t.val / 8 := by blk_simp [idx_val t]
    have e1 : (((win0_5.blk t).view.emb y : S4x8192x768.Idx) 1).val = 1024 * (t.val % 8) + (512 + x1.val) := by blk_simp [idx_val t]; omega
    have e2 : (((win0_5.blk t).view.emb y : S4x8192x768.Idx) 2).val = x2.val := by blk_simp [idx_val t]; omega
    refine (pay66_at _ _ x1 x2).trans (proj_row m c t 512 768 768 _ _ x1 x2 _ _ _ e0 e1 (by decide) ?_)
    show 768 + (((win0_5.blk t).view.emb y : S4x8192x768.Idx) 2).val = 768 + x2.val
    omega
  · idx_vars x
    obtain rfl : x0 = 0 := Subsingleton.elim _ _
    have e0 : (((win0_5.blk t).view.emb y : S4x8192x768.Idx) 0).val = t.val / 8 := by blk_simp [idx_val t]
    have e1 : (((win0_5.blk t).view.emb y : S4x8192x768.Idx) 1).val = 1024 * (t.val % 8) + (0 + x1.val) := by blk_simp [idx_val t]; omega
    have e2 : (((win0_5.blk t).view.emb y : S4x8192x768.Idx) 2).val = x2.val := by blk_simp [idx_val t]; omega
    refine (pay5_at _ _ x1 x2).trans (proj_row m c t 0 768 768 _ _ x1 x2 _ _ _ e0 e1 (by decide) ?_)
    show 768 + (((win0_5.blk t).view.emb y : S4x8192x768.Idx) 2).val = 768 + x2.val
    omega

/-- A stored mean of a block's keys is the formula at the index it lands on. -/
theorem mean_tile {X0 : S4x8192x1024.Idx → EReal} {X1 : S1x1024x2560.Idx → EReal} (T o : ℕ) (v : FVec Ideal S512x768 .f32)
    (hv : ∀ (P : Fin 512) (j : Fin 768) (b : Fin 4) (s : Fin 8192) (n : Fin 2560), b.val = T / 8 → s.val = 1024 * (T % 8) + (o + P.val) →
      n.val = 768 + j.val → v (ix2 P j) = proj X0 X1 b s n)
    (r : ℕ) (hr : r ≤ 256) (h : S512x768.Slices ![r, 0] S256x768) (j : Fin 768) (i : S4x8x4x768.Idx)
    (h0 : (i 0).val = T / 8) (h1 : (i 1).val = T % 8) (h2 : 256 * (i 2).val = o + r) (h3 : (i 3).val = j.val) :
    mean r h v (ix4 0 0 0 j) = REF7 X0 X1 i := by
  refine (mean_at r hr h v j).trans ?_
  unfold REF7
  refine congrArg (Ideal.div · NB) (Finset.sum_congr rfl fun q _ => hv _ _ _ _ _ h0 ?_ ?_)
  · show 1024 * (i 1).val + (256 * (i 2).val + q.val) = 1024 * (T % 8) + (o + (r + q.val))
    omega
  · show 768 + (i 3).val = 768 + j.val
    omega

set_option maxHeartbeats 4000000 in
/-- The mean keys the call leaves. -/
theorem final7 (c : Dev nD) : (dats m 0 c).arrAt 7 cfg0.N
    = (REF7 (m ((c : Thread nD τ).loc main_arg0)) (m ((c : Thread nD τ).loc main_arg1)) : S4x8x4x768.Idx → EReal) := by
  refine (dats m 0 c).arrAt_eq_of_covers 7 _ (by decide +kernel) fun t _ y => ?_
  blk_simp
  rw [after0_7]
  unfold Gen.outsAt0
  frame_out
  canon_tiles x h
  all_goals
    idx_vars x
    obtain rfl : x0 = 0 := Subsingleton.elim _ _
    obtain rfl : x1 = 0 := Subsingleton.elim _ _
    obtain rfl : x2 = 0 := Subsingleton.elim _ _
    first
      | have e : 2 ≤ (y 2).val := by omega
        refine mean_tile t.val 512 (k0_pay65 (View.ld (iblk m c 0 t) (Rect.unit (s := S1x1024x1024) ![0, 512, 0] ![1, 512, 1024] _))
            (View.ld (iblk m c 1 t) (Rect.unit (s := S1024x1792) ![0, 768] ![1024, 768] _)))
          (fun P j b s n hb hs hn => (pay65_at _ _ P j).trans (proj_row m c t 512 768 768 _ _ P j b s n hb hs (by decide) hn)) _ (by decide) _ x3 _ ?_ ?_ ?_ ?_
        all_goals blk_simp [idx_val t]
        all_goals omega
      | refine mean_tile t.val 0 (k0_pay4 (View.ld (iblk m c 0 t) (Rect.unit (s := S1x1024x1024) ![0, 0, 0] ![1, 512, 1024] _))
            (View.ld (iblk m c 1 t) (Rect.unit (s := S1024x1792) ![0, 768] ![1024, 768] _)))
          (fun P j b s n hb hs hn => (pay4_at _ _ P j).trans (proj_row m c t 0 768 768 _ _ P j b s n hb hs (by decide) hn)) _ (by decide) _ x3 _ ?_ ?_ ?_ ?_
        all_goals blk_simp [idx_val t]
        all_goals omega

end Cert.FrontIdeal.RowValue

end
-- ==== Proof.FrontVals.lean ====
/- The projection call's values as functions of its arguments. -/
module

public import proofs.«01_k».proof.Proof.FrontTile

@[expose] public section

set_option maxRecDepth 16384

noncomputable section

namespace Cert.FrontIdeal.RowValue

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

/-- The values' weight as the body reads it. -/
theorem wv_blk (c : Dev nD) (t : Fin cfg0.N) (j : Fin 768) (k : Fin 1024) (n : Fin 2560) (hn : n.val = 1536 + j.val) :
    (iblk m c 2 t : S768x1024.Idx → EReal) (ix2 j k) = m ((c : Thread nD τ).loc main_arg1) (ix3 0 k n) := by
  refine Eq.trans ?_ (host2 m c j k n hn)
  refine congrArg (V m c main_v6 : S768x1024.Idx → EReal) ?_
  blk_ext [idx_val t]

/-- A column of the transposed values is the projection of the row it lands on. -/
theorem vproj (c : Dev nD) (t : Fin cfg0.N) (o : ℕ)
    (hx : ∀ a, (![0, o, 0] : Fin 3 → ℕ) a + (![1, 512, 1024] : Fin 3 → ℕ) a ≤ S1x1024x1024.size a) (J : Fin 768) (P : Fin 512)
    (b : Fin 4) (s : Fin 8192) (n : Fin 2560) (hb : b.val = t.val / 8) (hs : s.val = 1024 * (t.val % 8) + (o + P.val)) (hn : n.val = 1536 + J.val) :
    (∑ k : Fin 1024, (fun a b : EReal => a * b) ((iblk m c 2 t : S768x1024.Idx → EReal) (ix2 J k))
        (View.ld (iblk m c 0 t) (Rect.unit (s := S1x1024x1024) ![0, o, 0] ![1, 512, 1024] hx) (ix3 0 P k)))
      = proj (m ((c : Thread nD τ).loc main_arg0)) (m ((c : Thread nD τ).loc main_arg1)) b s n :=
  Finset.sum_congr rfl fun k _ => (congrArg₂ (fun a b : EReal => a * b) (wv_blk m c t J k n hn) (x_at m c t o hx P k b s hb hs)).trans (mul_comm _ _)

/-- A stored tile of values is the formula at the index it lands on. -/
theorem val_tile {X0 : S4x8192x1024.Idx → EReal} {X1 : S1x1024x2560.Idx → EReal} (T o : ℕ) (v : FVec Ideal S768x512 .f32)
    (hv : ∀ (J : Fin 768) (P : Fin 512) (b : Fin 4) (s : Fin 8192) (n : Fin 2560), b.val = T / 8 → s.val = 1024 * (T % 8) + (o + P.val) →
      n.val = 1536 + J.val → v (ix2 J P) = proj X0 X1 b s n)
    (r q0 : ℕ) (h : S768x512.Slices ![r, q0] S64x256) (d : Fin 64) (q : Fin 256) (i : S4x32x12x80x256.Idx)
    (h0 : (i 0).val = T / 8) (h1 : 256 * (i 1).val = 1024 * (T % 8) + (o + q0)) (h2 : 64 * (i 2).val = r) (h3 : (i 3).val = d.val)
    (h4 : (i 4).val = q.val) (hq : q0 ≤ 256) :
    (shapeCast S1x1x1x64x256 (truncf .bf16 (extractStridedSlice S64x256 ![r, q0] v h) bitsLt_bf16_f32 : FVec Ideal S64x256 .bf16) shapeCasts_S64x256_S1x1x1x64x256 : FVec Ideal S1x1x1x64x256 .bf16) (ix5 0 0 0 d q)
      = REF6 X0 X1 i := by
  have b2 : (i 2).val < 12 := (i 2).isLt
  refine (vtile_at v r q0 h d q ⟨r + d.val, by omega⟩ ⟨q0 + q.val, by omega⟩ rfl rfl).trans ?_
  unfold REF6
  rw [dif_pos (h3 ▸ d.isLt : (i 3).val < 64)]
  exact hv _ _ _ _ _ h0 (by show 256 * (i 1).val + (i 4).val = 1024 * (T % 8) + (o + (q0 + q.val)); omega)
    (by show 1536 + (64 * (i 2).val + (i 3).val) = 1536 + (r + d.val); omega)

/-- A stored tile of ones is the formula at the index it lands on. -/
theorem ones_tile {X0 : S4x8192x1024.Idx → EReal} {X1 : S1x1024x2560.Idx → EReal} (d : Fin 16) (q : Fin 256) (i : S4x32x12x80x256.Idx)
    (h3 : (i 3).val = 64 + d.val) :
    (shapeCast S1x1x1x16x256 (k0_pay1 (F := Ideal)) shapeCasts_S16x256_S1x1x1x16x256 : FVec Ideal S1x1x1x16x256 .bf16) (ix5 0 0 0 d q) = REF6 X0 X1 i := by
  refine (ones_at d q).trans ?_
  unfold REF6
  rw [dif_neg (by omega)]

set_option maxHeartbeats 16000000 in
/-- The values the call leaves. -/
theorem final6 (c : Dev nD) : (dats m 0 c).arrAt 6 cfg0.N
    = (REF6 (m ((c : Thread nD τ).loc main_arg0)) (m ((c : Thread nD τ).loc main_arg1)) : S4x32x12x80x256.Idx → EReal) := by
  refine (dats m 0 c).arrAt_eq_of_covers 6 _ (by decide +kernel) fun t _ y => ?_
  blk_simp
  rw [after0_6]
  unfold Gen.outsAt0
  frame_out
  canon_tiles x h using View.cover_of_tiledBy _ ![1, 1, 1, 16, 256] (by sl_kernel_rfl) y
  all_goals
    idx_vars x
    obtain rfl : x0 = 0 := Subsingleton.elim _ _
    obtain rfl : x1 = 0 := Subsingleton.elim _ _
    obtain rfl : x2 = 0 := Subsingleton.elim _ _
    first
      | have e : 64 ≤ (y 3).val := by omega
        refine ones_tile x3 x4 _ ?_
        blk_simp [idx_val t]
        omega
      | have e : 2 ≤ (y 1).val := by omega
        refine val_tile t.val 512 (k0_pay67 (k0_pay63 (View.ld (iblk m c 0 t) (Rect.unit (s := S1x1024x1024) ![0, 512, 0] ![1, 512, 1024] _))) (iblk m c 2 t))
          (fun J P b s n hb hs hn => (pay67_at _ _ J P).trans (vproj m c t 512 _ J P b s n hb hs hn)) _ _ _ x3 x4 _ ?_ ?_ ?_ ?_ ?_ (by decide)
        all_goals blk_simp [idx_val t]
        all_goals omega
      | refine val_tile t.val 0 (k0_pay6 (View.ld (iblk m c 0 t) (Rect.unit (s := S1x1024x1024) ![0, 0, 0] ![1, 512, 1024] _)) (iblk m c 2 t))
          (fun J P b s n hb hs hn => (pay6_at _ _ J P).trans (vproj m c t 0 _ J P b s n hb hs hn)) _ _ _ x3 x4 _ ?_ ?_ ?_ ?_ ?_ (by decide)
        all_goals blk_simp [idx_val t]
        all_goals omega

end Cert.FrontIdeal.RowValue

end
-- ==== Proof.FrontMem.lean ====
/- The projection call's memory attention as a function of its arguments. -/
module

public import proofs.«01_k».proof.Proof.FrontTile
public import proofs.«01_k».proof.Proof.GmlpMem
public import Idealize.ShloMosaic.Lib.WholeRead

@[expose] public section

set_option maxRecDepth 16384

noncomputable section

namespace Cert.FrontIdeal.RowValue

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

open GmlpIdeal.Attn (attn attn_at)
open GmlpIdeal.RowValue (cols_at)

/-- The attention of one row of a half block is the formula at the index it lands on. -/
theorem attn_row {X0 : S4x8192x1024.Idx → EReal} {X1 : S1x1024x2560.Idx → EReal} {X2 : S4x256x512.Idx → EReal}
    (hx : Row.Real X0) (hw : Row.Real X1) (hk : Row.Real X2) (i : S4x8192x256.Idx) (p : Fin 512) (j : Fin 256) (hj : (i 2).val = j.val)
    (x : Vec Ideal S1x512x1024 .f32) (w : Vec Ideal S1024x256 .bf16) (q : FVec Ideal S512x256 .bf16)
    (hq : ∀ l, q (ix2 p l) = (∑ k, x (ix3 0 p k) * w (ix2 k l)) * SC) (hX : ∀ k, x (ix3 0 p k) = X0 (ix3 (i 0) (i 1) k))
    (hW : ∀ (k : Fin 1024) (l : Fin 256), w (ix2 k l) = X1 (ix3 0 k ⟨2304 + l.val, by omega⟩))
    (k0 k1 : Vec Ideal S256x128 .bf16) (v : Vec Ideal S256x256 .bf16)
    (hk0 : ∀ (n : Fin 256) (l : Fin 128), k0 (ix2 n l) = X2 (ix3 (i 0) n ⟨0 + l.val, by omega⟩))
    (hk1 : ∀ (n : Fin 256) (l : Fin 128), k1 (ix2 n l) = X2 (ix3 (i 0) n ⟨128 + l.val, by omega⟩))
    (hv : ∀ (n : Fin 256) (l : Fin 256), v (ix2 n l) = X2 (ix3 (i 0) n ⟨256 + l.val, by omega⟩)) :
    attn q k0 k1 v (ix3 0 p j) = REF8 X0 X1 X2 i := by
  have h2 : (i 2).val < 256 := (i 2).isLt
  unfold REF8 proj
  refine attn_at (Q := fun l => ∑ k, X0 (ix3 (i 0) (i 1) k) * X1 (ix3 0 k ⟨2304 + l.val, by omega⟩))
    (K := fun n l => X2 (ix3 (i 0) n ⟨l.val, by omega⟩)) (V := fun n l => X2 (ix3 (i 0) n ⟨256 + l.val, by omega⟩))
    (fun l => (hq l).trans (congrArg (· * SC) (Finset.sum_congr rfl fun k _ => by rw [hX, hW])))
    hk0 hk1 hv
    (fun l => Row.dot_real (fun _ => hx _) fun _ => hw _) (fun _ _ => hk _) j ⟨(i 2).val / 64, by omega⟩ ⟨(i 2).val % 64, by omega⟩ ?_
  show j.val = 64 * ((i 2).val / 64) + (i 2).val % 64
  omega

/-- The memory's keys and values at a slot and a column. -/
theorem kv_at (c : Dev nD) (t : Fin cfg0.N) (o w : ℕ)
    (hR : ∀ a, (![0, 0, 0] : Fin 3 → ℕ) a + (![1, 256, 512] : Fin 3 → ℕ) a ≤ S1x256x512.size a)
    (hn : S256x512.numel = (Rect.unit (s := S1x256x512) ![0, 0, 0] ![1, 256, 512] hR).shape.numel)
    (inb : ∀ a, (![0, o] : Fin 2 → ℕ) a + (![256, w] : Fin 2 → ℕ) a ≤ S256x512.size a)
    (sc : S1x256x512.ShapeCasts S256x512) (n : Fin 256) (l : Fin w) (B : Fin 4) (hB : B.val = t.val / 8) (C : Fin 512) (hC : C.val = o + l.val) :
    View.ld (View.read (Elt Ideal) (((ms0_3 t).view.slice (Rect.unit (s := S1x256x512) ![0, 0, 0] ![1, 256, 512] hR)).reshape S256x512 hn)
      ((hs0_3 t).unread (iblk m c 3 t))) (Rect.unit (s := S256x512) ![0, o] ![256, w] inb) (ix2 n l) = m ((c : Thread nD τ).loc main_arg2) (ix3 B n C) := by
  refine (Memref.IsWhole.readAt_slice_reshape_unread (m := ms0_3 t) (hs0_3 t) (iblk m c 3 t) _ hn (Rect.unit (s := S256x512) ![0, o] ![256, w] inb).toLoadRect (ix2 n l)).trans ?_
  have e (v : FVec Ideal S1x256x512 .bf16) : (shapeCast S256x512 v sc : FVec Ideal S256x512 .bf16) (ix2 n C) = v (ix3 0 n C) := by pointwise
  have ei : (Rect.unit (s := S256x512) ![0, o] ![256, w] inb).idx (ix2 n l) = ix2 n C := by
    refine funext fun a => Fin.ext ((unit_idx _ _ inb _ a).trans ?_)
    fin_cases a
    · simp
    · simp [hC]
  show (shapeCast S256x512 (View.ld (iblk m c 3 t) (Rect.unit (s := S1x256x512) ![0, 0, 0] ![1, 256, 512] hR) : FVec Ideal S1x256x512 .bf16) sc : FVec Ideal S256x512 .bf16)
    ((Rect.unit (s := S256x512) ![0, o] ![256, w] inb).idx (ix2 n l)) = _
  rw [ei]
  refine (e _).trans ?_
  blk_point [iblk, V, idx_val t]

set_option maxHeartbeats 4000000 in
/-- The memory attention the call leaves, when the arguments are real. -/
theorem final8 (c : Dev nD) (hx : Row.Real (ι := S4x8192x1024.Idx) (m ((c : Thread nD τ).loc main_arg0)))
    (hw : Row.Real (ι := S1x1024x2560.Idx) (m ((c : Thread nD τ).loc main_arg1))) (hk : Row.Real (ι := S4x256x512.Idx) (m ((c : Thread nD τ).loc main_arg2))) :
    (dats m 0 c).arrAt 8 cfg0.N
    = (REF8 (m ((c : Thread nD τ).loc main_arg0)) (m ((c : Thread nD τ).loc main_arg1)) (m ((c : Thread nD τ).loc main_arg2)) : S4x8192x256.Idx → EReal) := by
  refine (dats m 0 c).arrAt_eq_of_covers 8 _ (by decide +kernel) fun t _ y => ?_
  blk_simp
  rw [after0_8]
  unfold Gen.outsAt0
  frame_out
  canon_tiles x h
  · idx_vars x
    obtain rfl : x0 = 0 := Subsingleton.elim _ _
    have e0 : (((win0_8.blk t).view.emb y : S4x8192x256.Idx) 0).val = t.val / 8 := by blk_simp [idx_val t]
    have e1 : (((win0_8.blk t).view.emb y : S4x8192x256.Idx) 1).val = 1024 * (t.val % 8) + (512 + x1.val) := by blk_simp [idx_val t]; omega
    refine attn_row hx hw hk _ x1 x2 ?_ (View.ld (iblk m c 0 t) (Rect.unit (s := S1x1024x1024) ![0, 512, 0] ![1, 512, 1024] _))
      (View.ld (iblk m c 1 t) (Rect.unit (s := S1024x1792) ![0, 1536] ![1024, 256] _))
      (k0_pay135 (F := Ideal) (k0_pay122 (k0_pay63 _) _)) (fun l => query_at' _ _ x1 l) ?_ ?_ _ _ _ ?_ ?_ ?_
    · blk_simp [idx_val t]
      omega
    · exact fun k => x_at m c t 512 _ x1 k _ _ e0 e1
    · exact fun k l => w_at m c t 1536 256 _ k l _ (by simp)
    · exact fun n l => kv_at m c t 0 128 _ _ _ (by decide) n l _ e0 _ rfl
    · exact fun n l => kv_at m c t 128 128 _ _ _ (by decide) n l _ e0 _ rfl
    · exact fun n l => kv_at m c t 256 256 _ _ _ (by decide) n l _ e0 _ rfl
  · idx_vars x
    obtain rfl : x0 = 0 := Subsingleton.elim _ _
    have e0 : (((win0_8.blk t).view.emb y : S4x8192x256.Idx) 0).val = t.val / 8 := by blk_simp [idx_val t]
    have e1 : (((win0_8.blk t).view.emb y : S4x8192x256.Idx) 1).val = 1024 * (t.val % 8) + (0 + x1.val) := by blk_simp [idx_val t]; omega
    refine attn_row hx hw hk _ x1 x2 ?_ (View.ld (iblk m c 0 t) (Rect.unit (s := S1x1024x1024) ![0, 0, 0] ![1, 512, 1024] _))
      (View.ld (iblk m c 1 t) (Rect.unit (s := S1024x1792) ![0, 1536] ![1024, 256] _))
      (k0_pay123 (F := Ideal) (k0_pay62 (k0_pay2 _) _)) (fun l => query_at _ _ x1 l) ?_ ?_ _ _ _ ?_ ?_ ?_
    · blk_simp [idx_val t]
      omega
    · exact fun k => x_at m c t 0 _ x1 k _ _ e0 e1
    · exact fun k l => w_at m c t 1536 256 _ k l _ (by simp)
    · exact fun n l => kv_at m c t 0 128 _ _ _ (by decide) n l _ e0 _ rfl
    · exact fun n l => kv_at m c t 128 128 _ _ _ (by decide) n l _ e0 _ rfl
    · exact fun n l => kv_at m c t 256 256 _ _ _ (by decide) n l _ e0 _ rfl

end Cert.FrontIdeal.RowValue

end
-- ==== Proof.FrontRefValue.lean ====
/- The reference of the projection call, read at one element of each result. -/
module

public import proofs.«01_k».proof.Proof.RowAttn
public import proofs.«01_k».proof.Proof.Gen.FrontRefIdeal.Read

@[expose] public section

set_option maxRecDepth 16384

noncomputable section

namespace Cert.FrontRefIdeal.RowValue

open Cert.FrontRefIdeal Cert.FrontRefIdeal.Gen Cert.FrontRefIdeal.Read Idealize.ShloMosaic Idealize.ShloMosaic.TcCoe

/-- The maximum's seed: minus infinity. -/
abbrev BOT : EReal := Ideal.ofBits .f32 0xFF800000#32
/-- The scale of a score: an eighth. -/
abbrev SC : EReal := Ideal.ofBits .f32 0x3E000000#32
/-- The scale of a query. -/
abbrev QS : EReal := Ideal.ofBits .f32 0x3E38AA3B#32
/-- The tokens in a block. -/
abbrev NB : EReal := Ideal.ofBits .f32 0x43800000#32

variable (x0 : (⟨S4x8192x1024, .f32⟩ : BufTy).Contents (Elt Ideal)) (x1 : (⟨S1x1024x2560, .f32⟩ : BufTy).Contents (Elt Ideal))
  (x2 : (⟨S4x256x512, .bf16⟩ : BufTy).Contents (Elt Ideal))

/-- The scaled query. -/
theorem v40_at (b : Fin 4) (s : Fin 8192) (j : Fin 768) : val_main_v40 (F := Ideal) x0 x1 (ix3 b s j)
    = (∑ k, x0 (ix3 b s k) * x1 (ix3 0 k ⟨j.val, by omega⟩)) * QS := by
  pointwise [val_main_v40, val_main_v7, val_main_v6, val_main_cst, val_main_v2, val_main_v1, val_main_v0, QS]

/-- The key before its cast. -/
theorem v3_at (b : Fin 4) (s : Fin 8192) (j : Fin 768) : val_main_v3 (F := Ideal) x0 x1 (ix3 b s j)
    = ∑ k, x0 (ix3 b s k) * x1 (ix3 0 k ⟨768 + j.val, by omega⟩) := by
  pointwise [val_main_v3, val_main_v1, val_main_v0]

/-- The key. -/
theorem v41_at (b : Fin 4) (s : Fin 8192) (j : Fin 768) : val_main_v41 (F := Ideal) x0 x1 (ix3 b s j)
    = ∑ k, x0 (ix3 b s k) * x1 (ix3 0 k ⟨768 + j.val, by omega⟩) := by
  pointwise [val_main_v41, val_main_v3, val_main_v1, val_main_v0]

/-- The value. -/
theorem v4_at (b : Fin 4) (s : Fin 8192) (j : Fin 768) : val_main_v4 (F := Ideal) x0 x1 (ix3 b s j)
    = ∑ k, x0 (ix3 b s k) * x1 (ix3 0 k ⟨1536 + j.val, by omega⟩) := by
  pointwise [val_main_v4, val_main_v1, val_main_v0]

/-- The memory query. -/
theorem v5_at (b : Fin 4) (s : Fin 8192) (j : Fin 256) : val_main_v5 (F := Ideal) x0 x1 (ix3 b s j)
    = ∑ k, x0 (ix3 b s k) * x1 (ix3 0 k ⟨2304 + j.val, by omega⟩) := by
  pointwise [val_main_v5, val_main_v1, val_main_v0]

/-- The mean key of a block of 256 tokens. -/
theorem v12_at (b : Fin 4) (i : Fin 8) (u : Fin 4) (j : Fin 768) : val_main_v12 (F := Ideal) x0 x1 (ix4 b i u j)
    = Ideal.div (∑ q : Fin 256, ∑ k, x0 (ix3 b ⟨1024 * i.val + (256 * u.val + q.val), by omega⟩ k) * x1 (ix3 0 k ⟨768 + j.val, by omega⟩)) NB := by
  have e : idx_main_v12 (ix4 b i u j) = ix3 b ⟨4 * i.val + u.val, by omega⟩ j := by
    refine funext fun a => Fin.ext ?_
    match a with
    | ⟨0, _⟩ => show (((b.val * 8 + i.val) * 4 + u.val) * 768 + j.val) / 24576 = b.val; omega
    | ⟨1, _⟩ => show (((b.val * 8 + i.val) * 4 + u.val) * 768 + j.val) / 768 % 32 = 4 * i.val + u.val; omega
    | ⟨2, _⟩ => show (((b.val * 8 + i.val) * 4 + u.val) * 768 + j.val) % 768 = j.val; omega
  have e0 (z : S4x32x768.Idx) : val_main_v11 (F := Ideal) x0 x1 z = Ideal.div (val_main_v9 (F := Ideal) x0 x1 z) NB := by
    rw [eq_ix3 z]
    pointwise [val_main_v11, val_main_v10, val_main_cst_1, NB]
  have z0 : val_main_cst_0 (F := Ideal) (Shape.Idx.first h_S_) = 0 := by
    show Ideal.ofBits .f32 0x00000000#32 = 0
    simp [Ideal.ofBits, Ideal.ieee]
  rw [val_main_v12_apply, e, e0, val_main_v9_apply, z0, zero_add]
  refine congrArg (Ideal.div · NB) (Finset.sum_congr rfl fun q _ => ?_)
  rw [val_main_v8_apply]
  refine Eq.trans (congrArg (val_main_v3 (F := Ideal) x0 x1) (funext fun a => Fin.ext ?_)) (v3_at x0 x1 b ⟨1024 * i.val + (256 * u.val + q.val), by omega⟩ j)
  match a with
  | ⟨0, _⟩ => show (((b.val * 32 + (4 * i.val + u.val)) * 256 + q.val) * 768 + j.val) / 6291456 = b.val; omega
  | ⟨1, _⟩ => show (((b.val * 32 + (4 * i.val + u.val)) * 256 + q.val) * 768 + j.val) / 768 % 8192 = 1024 * i.val + (256 * u.val + q.val); omega
  | ⟨2, _⟩ => show (((b.val * 32 + (4 * i.val + u.val)) * 256 + q.val) * 768 + j.val) % 768 = j.val; omega

/-- The values of a block, a head's lanes by tokens. -/
theorem v14_at (b : Fin 4) (n : Fin 32) (h : Fin 12) (d : Fin 64) (q : Fin 256) : val_main_v14 (F := Ideal) x0 x1 (ix5 b n h d q)
    = ∑ k, x0 (ix3 b ⟨256 * n.val + q.val, by omega⟩ k) * x1 (ix3 0 k ⟨1536 + (64 * h.val + d.val), by omega⟩) := by
  rw [val_main_v14_apply, val_main_v13_apply]
  refine Eq.trans (congrArg (val_main_v4 (F := Ideal) x0 x1) (funext fun a => Fin.ext ?_)) (v4_at x0 x1 b ⟨256 * n.val + q.val, by omega⟩ ⟨64 * h.val + d.val, by omega⟩)
  match a with
  | ⟨0, _⟩ => show ((((b.val * 32 + n.val) * 256 + q.val) * 12 + h.val) * 64 + d.val) / 6291456 = b.val; omega
  | ⟨1, _⟩ => show ((((b.val * 32 + n.val) * 256 + q.val) * 12 + h.val) * 64 + d.val) / 768 % 8192 = 256 * n.val + q.val; omega
  | ⟨2, _⟩ => show ((((b.val * 32 + n.val) * 256 + q.val) * 12 + h.val) * 64 + d.val) % 768 = 64 * h.val + d.val; omega

/-- The values with their rows of ones. -/
theorem v42_at (b : Fin 4) (n : Fin 32) (h : Fin 12) (d : Fin 80) (q : Fin 256) : val_main_v42 (F := Ideal) x0 x1 (ix5 b n h d q)
    = if hd : d.val < 64 then val_main_v14 (F := Ideal) x0 x1 (ix5 b n h ⟨d.val, hd⟩ q) else 1 := by
  pointwise [val_main_v42, val_main_v16, val_main_v15, val_main_cst_2]

/-- A scaled score of the memory attention. -/
theorem v25_at (b h : Fin 4) (s : Fin 8192) (n : Fin 256) : val_main_v25 (F := Ideal) x0 x1 x2 (ix4 b h s n)
    = Row.score SC (fun d => ∑ k, x0 (ix3 b s k) * x1 (ix3 0 k ⟨2304 + (64 * h.val + d.val), by omega⟩))
      (fun n d => x2 (ix3 b n ⟨64 * h.val + d.val, by omega⟩)) n := by
  have e : val_main_v25 (F := Ideal) x0 x1 x2 (ix4 b h s n) = val_main_v23 (F := Ideal) x0 x1 x2 (ix4 b h s n) * SC := by
    pointwise [val_main_v25, val_main_v24, val_main_cst_3, SC]
  rw [e, val_main_v23_apply]
  unfold Row.score
  refine congrArg (· * SC) (Finset.sum_congr rfl fun d _ => congrArg₂ (· * ·) ?_ ?_)
  · rw [val_main_v20_apply]
    refine Eq.trans (congrArg (val_main_v5 (F := Ideal) x0 x1) (funext fun a => Fin.ext ?_)) (v5_at x0 x1 b s ⟨64 * h.val + d.val, by omega⟩)
    match a with
    | ⟨0, _⟩ => show (((b.val * 8192 + s.val) * 4 + h.val) * 64 + d.val) / 2097152 = b.val; omega
    | ⟨1, _⟩ => show (((b.val * 8192 + s.val) * 4 + h.val) * 64 + d.val) / 256 % 8192 = s.val; omega
    | ⟨2, _⟩ => show (((b.val * 8192 + s.val) * 4 + h.val) * 64 + d.val) % 256 = 64 * h.val + d.val; omega
  · rw [val_main_v21_apply, val_main_v18_apply, val_main_v17_apply]
    refine congrArg x2 (funext fun a => Fin.ext ?_)
    match a with
    | ⟨0, _⟩ => show (((b.val * 256 + n.val) * 4 + h.val) * 64 + d.val) / 65536 = b.val; omega
    | ⟨1, _⟩ => show (((b.val * 256 + n.val) * 4 + h.val) * 64 + d.val) / 256 % 256 = n.val; omega
    | ⟨2, _⟩ => show (((b.val * 256 + n.val) * 4 + h.val) * 64 + d.val) % 256 = 64 * h.val + d.val; omega

/-- The maximum over the last axis, at an index. -/
theorem fold_at (v : FVec Ideal S4x4x8192x256 .f32) (i : FVec Ideal S_ .f32) (b h : Fin 4) (s : Fin 8192) :
    Host.reduce FloatOps.maximumf v i reducesTo_S4x4x8192x256_S4x4x8192_d3 h_S_ (ix3 b h s)
      = Finset.univ.fold max (i (Shape.Idx.first h_S_)) fun l : Fin 256 => v (ix4 b h s l) := by
  pointwise

/-- The largest score of a row. -/
theorem v28_at (b h : Fin 4) (s : Fin 8192) : val_main_v28 (F := Ideal) x0 x1 x2 (ix3 b h s)
    = Finset.univ.fold max BOT fun l : Fin 256 => val_main_v25 (F := Ideal) x0 x1 x2 (ix4 b h s l) := by
  rw [val_main_v28_apply, val_main_v27_apply, val_main_v26, fold_at]
  exact Row.max_fold _ _ _

/-- The exponential of a score less the row's largest. -/
theorem v32_at (b h : Fin 4) (s : Fin 8192) (n : Fin 256) : val_main_v32 (F := Ideal) x0 x1 x2 (ix4 b h s n)
    = Ideal.exp (val_main_v25 (F := Ideal) x0 x1 x2 (ix4 b h s n) - val_main_v28 (F := Ideal) x0 x1 x2 (ix3 b h s)) := by
  pointwise [val_main_v32, val_main_v31, val_main_v30, val_main_v29]

/-- A softmax weight of the memory attention. -/
theorem v36_at (b h : Fin 4) (s : Fin 8192) (n : Fin 256) : val_main_v36 (F := Ideal) x0 x1 x2 (ix4 b h s n)
    = Ideal.div (val_main_v32 (F := Ideal) x0 x1 x2 (ix4 b h s n)) (∑ l : Fin 256, val_main_v32 (F := Ideal) x0 x1 x2 (ix4 b h s l)) := by
  pointwise [val_main_v36, val_main_v35, val_main_v34, val_main_v33, val_main_cst_6]

/-- The memory attention at a token and a lane. -/
theorem v43_at (b : Fin 4) (s : Fin 8192) (j : Fin 256) : val_main_v43 (F := Ideal) x0 x1 x2 (ix3 b s j)
    = Row.head BOT SC (fun d => ∑ k, x0 (ix3 b s k) * x1 (ix3 0 k ⟨2304 + (64 * (j.val / 64) + d.val), by omega⟩))
      (fun n d => x2 (ix3 b n ⟨64 * (j.val / 64) + d.val, by omega⟩))
      (fun n d => x2 (ix3 b n ⟨256 + (64 * (j.val / 64) + d.val), by omega⟩)) ⟨j.val % 64, by omega⟩ := by
  have e0 : val_main_v43 (F := Ideal) x0 x1 x2 (ix3 b s j) = val_main_v39 (F := Ideal) x0 x1 x2 (ix3 b s j) := by
    pointwise [val_main_v43]
  have e : idx_main_v38 (idx_main_v39 (ix3 b s j)) = ix4 b ⟨j.val / 64, by omega⟩ ⟨j.val % 64, by omega⟩ s := by
    refine funext fun a => Fin.ext ?_
    match a with
    | ⟨0, _⟩ => show ((b.val * 8192 + s.val) * 256 + j.val) / 2097152 = b.val; omega
    | ⟨1, _⟩ => show ((b.val * 8192 + s.val) * 256 + j.val) / 64 % 4 = j.val / 64; omega
    | ⟨2, _⟩ => show ((b.val * 8192 + s.val) * 256 + j.val) % 64 = j.val % 64; omega
    | ⟨3, _⟩ => show ((b.val * 8192 + s.val) * 256 + j.val) / 256 % 8192 = s.val; omega
  rw [e0, val_main_v39_apply, val_main_v38_apply, e, val_main_v37_apply]
  unfold Row.head
  refine Finset.sum_congr rfl fun n _ => congrArg₂ (· * ·) ?_ ?_
  · rw [val_main_v22_apply, val_main_v19_apply, val_main_v17_apply]
    refine congrArg x2 (funext fun a => Fin.ext ?_)
    match a with
    | ⟨0, _⟩ => show (((b.val * 256 + n.val) * 4 + j.val / 64) * 64 + j.val % 64) / 65536 = b.val; omega
    | ⟨1, _⟩ => show (((b.val * 256 + n.val) * 4 + j.val / 64) * 64 + j.val % 64) / 256 % 256 = n.val; omega
    | ⟨2, _⟩ => show 256 + (((b.val * 256 + n.val) * 4 + j.val / 64) * 64 + j.val % 64) % 256 = 256 + (64 * (j.val / 64) + j.val % 64); omega
  · have er : ridx_main_v37 (ix4 b (⟨j.val / 64, by omega⟩ : Fin 4) (⟨j.val % 64, by omega⟩ : Fin 64) s) n = ix4 b ⟨j.val / 64, by omega⟩ s n :=
      funext fun a => match a with | ⟨0, _⟩ => rfl | ⟨1, _⟩ => rfl | ⟨2, _⟩ => rfl | ⟨3, _⟩ => rfl
    rw [er, v36_at]
    simp only [v32_at, v28_at, v25_at]
    rfl

end Cert.FrontRefIdeal.RowValue

end
-- ==== Proof.FrontClaim.lean ====
/- The claim about the projection call: on finite inputs kernel and reference compute the same five arrays. -/
module

public import proofs.«01_k».proof.Defs
public import proofs.«01_k».proof.Proof.FrontProj
public import proofs.«01_k».proof.Proof.FrontVals
public import proofs.«01_k».proof.Proof.FrontMem
public import proofs.«01_k».proof.Proof.FrontRefValue
public import proofs.«01_k».proof.Proof.GmlpClaim
public import proofs.«01_k».proof.Proof.Gen.FrontRefIdeal.Run
public import Idealize.ShloMosaic.Lib.Claim

@[expose] public section

set_option maxRecDepth 16384

noncomputable section

namespace Cert.FrontClaim

open Idealize.ShloMosaic Idealize.ShloMosaic.TcCoe

/-- The precondition's side conditions: a scalar spreads over any shape. -/
theorem facts : Cert.Pre_finite3.Facts where
  bcast_S_S4x8192x1024 := by decide
  bcast_S_S1x1024x2560 := by decide
  bcast_S_S4x256x512 := by decide

/-- Where the precondition holds the rows, the projection and the memory are real. -/
theorem real [Cert.Pre_finite3.Facts] {m : (ℓ : Loc Cert.FrontIdeal.nD Cert.FrontIdeal.τ Cert.FrontIdeal.sig) → Buf (Elt Ideal) ℓ}
    (h : Cert.Pre_FrontIdeal_finite3 m) (c : Dev Cert.FrontIdeal.nD) :
    Row.Real (ι := FrontIdeal.S4x8192x1024.Idx) (m ((c : Thread FrontIdeal.nD FrontIdeal.τ).loc FrontIdeal.main_arg0))
    ∧ Row.Real (ι := FrontIdeal.S1x1024x2560.Idx) (m ((c : Thread FrontIdeal.nD FrontIdeal.τ).loc FrontIdeal.main_arg1))
    ∧ Row.Real (ι := FrontIdeal.S4x256x512.Idx) (m ((c : Thread FrontIdeal.nD FrontIdeal.τ).loc FrontIdeal.main_arg2)) := by
  obtain ⟨h0, h1, h2⟩ := h c
  refine ⟨fun i => GmlpClaim.real_of_olt ?_ (congrFun h0 i), fun i => GmlpClaim.real_of_olt ?_ (congrFun h1 i),
    fun i => GmlpClaim.real_of_olt ?_ (congrFun h2 i)⟩
  · show Ideal.ofBits .f32 0x7F800000#32 = ⊤
    simp [Ideal.ofBits, Ideal.ieee]
  · show Ideal.ofBits .f32 0x7F800000#32 = ⊤
    simp [Ideal.ofBits, Ideal.ieee]
  · show Ideal.ofBits .bf16 0x7F80#16 = ⊤
    simp [Ideal.ofBits, Ideal.ieee]

variable (x0 : FVec Ideal FrontRefIdeal.S4x8192x1024 .f32) (x1 : FVec Ideal FrontRefIdeal.S1x1024x2560 .f32) (x2 : FVec Ideal FrontRefIdeal.S4x256x512 .bf16)

/-- The reference's queries are the formula over its arguments. -/
theorem queries : FrontRefIdeal.Read.val_main_v40 (F := Ideal) x0 x1 = FrontIdeal.RowValue.REF4 x0 x1 := by
  funext i
  rw [eq_ix3 i]
  exact FrontRefIdeal.RowValue.v40_at x0 x1 (i 0) (i 1) (i 2)

/-- The reference's keys are the formula over its arguments. -/
theorem keys : FrontRefIdeal.Read.val_main_v41 (F := Ideal) x0 x1 = FrontIdeal.RowValue.REF5 x0 x1 := by
  funext i
  rw [eq_ix3 i]
  exact FrontRefIdeal.RowValue.v41_at x0 x1 (i 0) (i 1) (i 2)

/-- The reference's values are the formula over its arguments. -/
theorem vals : FrontRefIdeal.Read.val_main_v42 (F := Ideal) x0 x1 = FrontIdeal.RowValue.REF6 x0 x1 := by
  funext i
  refine (congrArg (FrontRefIdeal.Read.val_main_v42 (F := Ideal) x0 x1) (eq_ix5 i)).trans ((FrontRefIdeal.RowValue.v42_at x0 x1 (i 0) (i 1) (i 2) (i 3) (i 4)).trans ?_)
  exact dite_congr rfl (fun hd => FrontRefIdeal.RowValue.v14_at x0 x1 (i 0) (i 1) (i 2) ⟨(i 3).val, hd⟩ (i 4)) fun _ => rfl

/-- The reference's mean keys are the formula over its arguments. -/
theorem means : FrontRefIdeal.Read.val_main_v12 (F := Ideal) x0 x1 = FrontIdeal.RowValue.REF7 x0 x1 := by
  funext i
  rw [eq_ix4 i]
  exact FrontRefIdeal.RowValue.v12_at x0 x1 (i 0) (i 1) (i 2) (i 3)

/-- The reference's memory attention is the formula over its arguments. -/
theorem mem : FrontRefIdeal.Read.val_main_v43 (F := Ideal) x0 x1 x2 = FrontIdeal.RowValue.REF8 x0 x1 x2 := by
  funext i
  rw [eq_ix3 i]
  exact FrontRefIdeal.RowValue.v43_at x0 x1 x2 (i 0) (i 1) (i 2)

/-- The idealized kernel and the reference leave the same five arrays from the same finite arguments. -/
theorem algebraic [hPre_finite3 : Cert.Pre_finite3.Facts] : Cert.algebraic_FrontIdeal_FrontRefIdeal_pre_finite3 := by
  pair_intro
  · run_from Cert.FrontIdeal.Gen.run_main m g
  · run_from Cert.FrontRefIdeal.Value.run m' g'
    · obtain ⟨h0, h1, h2⟩ := hagree c
      rw [FrontIdeal.RowValue.final4 m c]
      refine (FrontRefIdeal.Read.val_main_v40_eq _ _).trans ((queries _ _).trans ?_)
      rw [← h0, ← h1]
    · obtain ⟨h0, h1, h2⟩ := hagree c
      rw [FrontIdeal.RowValue.final5 m c]
      refine (FrontRefIdeal.Read.val_main_v41_eq _ _).trans ((keys _ _).trans ?_)
      rw [← h0, ← h1]
    · obtain ⟨h0, h1, h2⟩ := hagree c
      rw [FrontIdeal.RowValue.final6 m c]
      refine (FrontRefIdeal.Read.val_main_v42_eq _ _).trans ((vals _ _).trans ?_)
      rw [← h0, ← h1]
    · obtain ⟨h0, h1, h2⟩ := hagree c
      rw [FrontIdeal.RowValue.final7 m c]
      refine (FrontRefIdeal.Read.val_main_v12_eq _ _).trans ((means _ _).trans ?_)
      rw [← h0, ← h1]
    · obtain ⟨h0, h1, h2⟩ := hagree c
      obtain ⟨r0, r1, r2⟩ := real hpre c
      rw [FrontIdeal.RowValue.final8 m c r0 r1 r2]
      refine (FrontRefIdeal.Read.val_main_v43_eq m' c).trans ((mem _ _ _).trans ?_)
      rw [← h0, ← h1, ← h2]

end Cert.FrontClaim

end
-- ==== Proof.lean ====
/- The claim: frames, preservation and values of the layer's calls, from the modules under Proof/. -/
module

public import proofs.«01_k».proof.Defs
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpRefIdeal
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontRefIdeal
public import proofs.«01_k».proof.Proof.Gen.GmlpIdeal.Value
public import proofs.«01_k».proof.Proof.Gen.PostIdeal.Value
public import proofs.«01_k».proof.Proof.Gen.FrontIdeal.Value
public import proofs.«01_k».proof.Proof.Gen.GmlpRefIdeal.Run
public import proofs.«01_k».proof.Proof.Gen.GmlpRefIdeal.Read
public import proofs.«01_k».proof.Proof.Gen.PostRefIdeal.Run
public import proofs.«01_k».proof.Proof.Gen.PostRefIdeal.Read
public import proofs.«01_k».proof.Proof.Gen.FrontRefIdeal.Run
public import proofs.«01_k».proof.Proof.Gen.FrontRefIdeal.Read
public import proofs.«01_k».proof.Proof.RefFrames
public import proofs.«01_k».proof.Proof.PostClaim
public import proofs.«01_k».proof.Proof.GmlpClaim
public import proofs.«01_k».proof.Proof.FrontClaim

@[expose] public section

noncomputable section

namespace Cert.Proof

open Idealize.ShloMosaic Idealize.SL.Sem

/-- Every claim of the certificate. -/
theorem claim : Cert.Claim :=
  ⟨Cert.Gmlp.Gen.facts, Cert.GmlpIdeal.Gen.facts, Cert.GmlpRefIdeal.Gen.facts, Cert.Post.Gen.facts, Cert.PostIdeal.Gen.facts,
    Cert.PostRefIdeal.Gen.facts, Cert.Front.Gen.facts, Cert.FrontIdeal.Gen.facts, Cert.FrontRefIdeal.Gen.facts, Cert.GmlpClaim.facts,
    Cert.FrontClaim.facts,
    fun m g _ => Cert.Gmlp.Gen.frame m g, fun m g _ => Cert.GmlpIdeal.Gen.frame m g, fun m g _ => Cert.GmlpIdeal.Gen.frame m g,
    Cert.RefFrames.gmlp, fun m g _ => Cert.RefFrames.gmlp m g trivial,
    fun m g _ => Cert.Post.Gen.frame m g, fun m g _ => Cert.PostIdeal.Gen.frame m g, Cert.RefFrames.post,
    fun m g _ => Cert.Front.Gen.frame m g, fun m g _ => Cert.FrontIdeal.Gen.frame m g, fun m g _ => Cert.FrontIdeal.Gen.frame m g,
    Cert.RefFrames.front, fun m g _ => Cert.RefFrames.front m g trivial,
    trivial, Cert.GmlpClaim.algebraic (hPre_finite := Cert.GmlpClaim.facts), trivial, Cert.PostClaim.algebraic,
    trivial, Cert.FrontClaim.algebraic (hPre_finite3 := Cert.FrontClaim.facts)⟩

end Cert.Proof

end
